-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x8 : Shape := ⟨2, ![4096, 8]⟩
abbrev S4096x32x128 : Shape := ⟨3, ![4096, 32, 128]⟩
abbrev S4096x128 : Shape := ⟨2, ![4096, 128]⟩

class Facts : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  sliceFits_S4096x4096_S4096x8 : S4096x4096.Slices (fun _ => 0) S4096x8
  reducesTo_S4096x8_S4096_d1 : S4096x8.ReducesTo [1] S4096
  bcast_S_S4096x512 : S_.BroadcastsInDim S4096x512 (![] : Fin 0 → Fin S4096x512.rank)
  reducesTo_S4096x4096_S4096_d1 : S4096x4096.ReducesTo [1] S4096
  bcast_S_S4096 : S_.BroadcastsInDim S4096 (![] : Fin 0 → Fin S4096.rank)
  shapeCasts_S4096x4096_S4096x32x128 : S4096x4096.ShapeCasts S4096x32x128
  reducesTo_S4096x32x128_S4096x128_d1 : S4096x32x128.ReducesTo [1] S4096x128
  bcast_S_S4096x128 : S_.BroadcastsInDim S4096x128 (![] : Fin 0 → Fin S4096x128.rank)
  dot_S4096x512_S512x4096_S4096x4096_1_0_0_1_n_n_wf : DotDims.WF S4096x512 S512x4096 S4096x4096 [1] [0] [0] [1] [] []

variable [Facts]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def fn_part1 {F : FTy → Type} [FloatOps F] (main_arg0 : FVec F S4096x512 .f32) (main_arg1 : FVec F S4096x512 .f32) (main_v18 : FVec F S4096x4096 .f32) : IVec S4096x512 1 × IVec S4096x512 1 × IVec S4096 1 × IVec S4096x128 1 :=
  let main_v19 : FVec F S4096x512 .f32 := Host.absf main_arg0
  let main_cst_2 : FVec F S_ .f32 := constant S_ .f32 0x5CB1A2BC#32
  let main_v20 : FVec F S4096x512 .f32 := broadcastInDim S4096x512 ![] bcast_S_S4096x512 main_cst_2
  let main_v21 : IVec S4096x512 1 := cmpf .ole main_v19 main_v20
  let main_v22 : FVec F S4096x512 .f32 := Host.absf main_arg1
  let main_cst_3 : FVec F S_ .f32 := constant S_ .f32 0x7F800000#32
  let main_v23 : FVec F S4096x512 .f32 := broadcastInDim S4096x512 ![] bcast_S_S4096x512 main_cst_3
  let main_v24 : IVec S4096x512 1 := cmpf .olt main_v22 main_v23
  let main_cst_4 : FVec F S_ .f32 := constant S_ .f32 0x00000000#32
  let main_v25 : FVec F S4096 .f32 := (fun x v => Host.reduceAdd x v reducesTo_S4096x4096_S4096_d1 h_S_) main_v18 main_cst_4
  let main_cst_5 : FVec F S_ .f32 := constant S_ .f32 0x41000000#32
  let main_v26 : FVec F S4096 .f32 := broadcastInDim S4096 ![] bcast_S_S4096 main_cst_5
  let main_v27 : IVec S4096 1 := cmpf .oeq main_v25 main_v26
  let main_v28 : FVec F S4096x32x128 .f32 := shapeCast S4096x32x128 main_v18 shapeCasts_S4096x4096_S4096x32x128
  let main_cst_6 : FVec F S_ .f32 := constant S_ .f32 0x00000000#32
  let main_v29 : FVec F S4096x128 .f32 := (fun x v => Host.reduceAdd x v reducesTo_S4096x32x128_S4096x128_d1 h_S_) main_v28 main_cst_6
  let main_cst_7 : FVec F S_ .f32 := constant S_ .f32 0x40000000#32
  let main_v30 : FVec F S4096x128 .f32 := broadcastInDim S4096x128 ![] bcast_S_S4096x128 main_cst_7
  let main_v31 : IVec S4096x128 1 := cmpf .ole main_v29 main_v30
  (main_v21, main_v24, main_v27, main_v31)

def fn {F : FTy → Type} [FloatOps F] (main_arg0 : FVec F S4096x512 .f32) (main_arg1 : FVec F S4096x512 .f32) : IVec S4096x512 1 × IVec S4096x512 1 × IVec S4096 1 × IVec S4096x128 1 :=
  let main_v0 : FVec F S4096x512 .f32 := mulf main_arg0 main_arg0
  let main_cst : FVec F S_ .f32 := constant S_ .f32 0x00000000#32
  let main_v1 : FVec F S4096 .f32 := (fun x v => Host.reduceAdd x v reducesTo_S4096x512_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S512x4096 .f32 := (transpose S512x4096 [1, 0] · transposes_S4096x512_S512x4096_1_0) main_arg0
  let main_v8 : FVec F S4096x4096 .f32 := (fun l r => Host.dotGeneral dot_S4096x512_S512x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_v12 : FVec F S4096x4096 .f32 := Host.negf main_v11
  let main_values : FVec F S4096x8 .f32 := (fun x => (Host.topK S4096x8 1 (FloatOps.cmpfTotal .gt) x sliceFits_S4096x4096_S4096x8).1) main_v12
  let main_indices : IVec S4096x8 32 := (fun x => (Host.topK S4096x8 1 (FloatOps.cmpfTotal .gt) x sliceFits_S4096x4096_S4096x8).2) main_v12
  let main_v13 : FVec F S4096x8 .f32 := Host.negf main_values
  let main_cst_1 : FVec F S_ .f32 := constant S_ .f32 0xFF800000#32
  let main_v14 : FVec F S4096 .f32 := (fun x v => Host.reduce FloatOps.maximumf x v reducesTo_S4096x8_S4096_d1 h_S_) main_v13 main_cst_1
  let main_v15 : FVec F S4096x1 .f32 := broadcastInDim S4096x1 ![0] bcast_S4096_S4096x1_0 main_v14
  let main_v16 : FVec F S4096x4096 .f32 := broadcastInDim S4096x4096 ![0, 1] bcast_S4096x1_S4096x4096_0_1 main_v15
  let main_v17 : IVec S4096x4096 1 := cmpf .ole main_v11 main_v16
  let main_v18 : FVec F S4096x4096 .f32 := uitofp .f32 main_v17
  fn_part1 (F := F) main_arg0 main_arg1 main_v18
-- ==== Kernel.lean ====
abbrev S4096x512 : Shape := ⟨2, ![4096, 512]⟩
abbrev S4096x8 : Shape := ⟨2, ![4096, 8]⟩
abbrev S1x1 : Shape := ⟨2, ![1, 1]⟩
abbrev S_ : Shape := ⟨0, ![]⟩
abbrev S512x512 : Shape := ⟨2, ![512, 512]⟩
abbrev S512x8 : Shape := ⟨2, ![512, 8]⟩
abbrev S1x4096 : Shape := ⟨2, ![1, 4096]⟩
abbrev S1x512 : Shape := ⟨2, ![1, 512]⟩
abbrev S512x4096 : Shape := ⟨2, ![512, 4096]⟩
abbrev S1x128 : Shape := ⟨2, ![1, 128]⟩
abbrev S16x128 : Shape := ⟨2, ![16, 128]⟩
abbrev S16x256 : Shape := ⟨2, ![16, 256]⟩
abbrev S16 : Shape := ⟨1, ![16]⟩
abbrev S16x1 : Shape := ⟨2, ![16, 1]⟩
abbrev S16x8 : Shape := ⟨2, ![16, 8]⟩
abbrev S16x512 : Shape := ⟨2, ![16, 512]⟩
abbrev S1x4096x8 : Shape := ⟨3, ![1, 4096, 8]⟩
abbrev S1 : Shape := ⟨1, ![1]⟩
abbrev S1x1x1 : Shape := ⟨3, ![1, 1, 1]⟩

abbrev nBuf : Space → Nat
  | .hbm => 8
  | .vmem => 12
  | .smem => 1
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x8, .f32⟩
  | .hbm, ⟨5, _⟩ => ⟨S4096x8, .f32⟩
  | .hbm, ⟨6, _⟩ => ⟨S1x1, .f32⟩
  | .hbm, ⟨7, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4096x512, .bf16⟩
  | .local _ .vmem, ⟨5, _⟩ => ⟨S512x8, .f32⟩
  | .local _ .vmem, ⟨6, _⟩ => ⟨S512x8, .f32⟩
  | .local _ .vmem, ⟨7, _⟩ => ⟨S512x8, .f32⟩
  | .local _ .vmem, ⟨8, _⟩ => ⟨S512x8, .f32⟩
  | .local _ .vmem, ⟨9, _⟩ => ⟨S1x4096, .f32⟩
  | .local _ .vmem, ⟨10, _⟩ => ⟨S4096x8, .f32⟩
  | .local _ .vmem, ⟨11, _⟩ => ⟨S4096x8, .f32⟩
  | .local _ .smem, ⟨0, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := .none

abbrev stage1_0 : Fin 1 → Memref sig .tc .vmem S4096x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩
abbrev S4096x8 : Shape := ⟨2, ![4096, 8]⟩
abbrev S4096x8x1 : Shape := ⟨3, ![4096, 8, 1]⟩
abbrev S4096x8x512 : Shape := ⟨3, ![4096, 8, 512]⟩
abbrev S4096x1x512 : Shape := ⟨3, ![4096, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S512x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x8, .f32⟩
  | .hbm, ⟨18, _⟩ => ⟨S4096x8, .i32⟩
  | .hbm, ⟨19, _⟩ => ⟨S_, .i32⟩
  | .hbm, ⟨20, _⟩ => ⟨S4096x8, .i32⟩
  | .hbm, ⟨21, _⟩ => ⟨S4096x8, .i1⟩
  | .hbm, ⟨22, _⟩ => ⟨S_, .i32⟩
  | .hbm, ⟨23, _⟩ => ⟨S4096x8, .i32⟩
  | .hbm, ⟨24, _⟩ => ⟨S4096x8, .i32⟩
  | .hbm, ⟨25, _⟩ => ⟨S4096x8, .i32⟩
  | .hbm, ⟨26, _⟩ => ⟨S4096x8x1, .i32⟩
  | .hbm, ⟨27, _⟩ => ⟨S4096x8x512, .f32⟩
  | .hbm, ⟨28, _⟩ => ⟨S4096x1x512, .f32⟩
  | .hbm, ⟨29, _⟩ => ⟨S4096x1x512, .f32⟩
  | .hbm, ⟨30, _⟩ => ⟨S4096x8x512, .f32⟩
  | .hbm, ⟨31, _⟩ => ⟨S4096x8x512, .f32⟩
  | .hbm, ⟨32, _⟩ => ⟨S4096x8x512, .f32⟩
  | .hbm, ⟨33, _⟩ => ⟨S_, .f32⟩
  | .hbm, ⟨34, _⟩ => ⟨S4096x8, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S4096x8x512, .f32⟩
  | .hbm, ⟨46, _⟩ => ⟨S4096x8x512, .f32⟩
  | .hbm, ⟨47, _⟩ => ⟨S4096x8x512, .f32⟩
  | .hbm, ⟨48, _⟩ => ⟨S_, .f32⟩
  | .hbm, ⟨49, _⟩ => ⟨S4096x8, .f32⟩
  | .hbm, ⟨50, _⟩ => ⟨S4096x8, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_values : Ref sig .tc := ⟨.hbm, 17, rfl⟩
abbrev main_indices : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Top.Body.lean ====
module

public import proofs.«01_k».proof.KernelIdeal

@[expose] public section

set_option synthInstance.maxSize 4096

noncomputable section

namespace Cert.KernelIdeal.Top

open Idealize.ShloMosaic Idealize.SL.Sem
open Facts Shapes1.Facts₀

variable {F : FTy → Type} [FloatOps F] [Facts]

/-- The 128 columns of a block lie within the row of norms. -/
theorem slR (c : Nat) : S1x4096.Slices ![0, 128 * (c % 32)] S1x128 :=
  ⟨rfl, Fin.forall_fin_two.2 ⟨Nat.le_refl 1, by
    show 128 * (c % 32) + 128 ≤ 4096
    omega⟩⟩

/-- The 16 rows and 128 columns of a block lie within the table of products. -/
theorem slP (b c : Nat) : S512x4096.Slices ![16 * (b % 32), 128 * (c % 32)] S16x128 :=
  ⟨rfl, Fin.forall_fin_two.2 ⟨by
    show 16 * (b % 32) + 16 ≤ 512
    omega, by
    show 128 * (c % 32) + 128 ≤ 4096
    omega⟩⟩

/-- The 16 rows of a block lie within the result. -/
theorem inO (b : Nat) : ∀ a, (![16 * (b % 32), 0] : Fin 2 → Nat) a + S16x8.size a ≤ S512x8.size a :=
  Fin.forall_fin_two.2 ⟨by
    show 16 * (b % 32) + 16 ≤ 512
    omega, Nat.le_refl _⟩

/-- The 16 rows of a block lie within the window. -/
theorem inX (b : Nat) : ∀ a, (![16 * (b % 32), 0] : Fin 2 → Nat) a + S16x512.size a ≤ S512x512.size a :=
  Fin.forall_fin_two.2 ⟨by
    show 16 * (b % 32) + 16 ≤ 512
    omega, Nat.le_refl _⟩

/-- A block's 16 rows of a product plus the columns' norms, at the 128 columns of chunk `c`. -/
def chunk (sq : FVec F S1x4096 .f32) (p : FVec F S512x4096 .f32) (b c : Nat) : FVec F S16x128 .bf16 :=
  truncf .bf16 (addf (broadcastTo S16x128 (extractStridedSlice S1x128 ![0, 128 * (c % 32)] sq (slR c)) broadcasts_S1x128_S16x128)
    (extractStridedSlice S16x128 ![16 * (b % 32), 128 * (c % 32)] p (slP b c))) bitsLt_bf16_f32

/-- The two least of `n` further chunks per lane, with their values, handed to `k`. -/
def fold2 {R : Type _} (sq : FVec F S1x4096 .f32) (p q : FVec F S512x4096 .f32) (b : Nat)
    (k : FVec F S16x128 .bf16 → FVec F S16x128 .bf16 → FVec F S16x128 .bf16 → FVec F S16x128 .bf16 → R) (n : Nat) :
    Nat → FVec F S16x128 .bf16 → FVec F S16x128 .bf16 → FVec F S16x128 .bf16 → FVec F S16x128 .bf16 → R :=
  Nat.rec (fun _ m1 p1 m2 p2 => k m1 p1 m2 p2)
    (fun _ ih c m1 p1 m2 p2 =>
      ih (c + 1)
        (select (cmpf .olt (chunk sq p b c) m1) (chunk sq p b c) m1)
        (select (cmpf .olt (chunk sq p b c) m1) (chunk sq q b c) p1)
        (select (cmpf .olt (select (cmpf .olt (chunk sq p b c) m1) m1 (chunk sq p b c)) m2)
          (select (cmpf .olt (chunk sq p b c) m1) m1 (chunk sq p b c)) m2)
        (select (cmpf .olt (select (cmpf .olt (chunk sq p b c) m1) m1 (chunk sq p b c)) m2)
          (select (cmpf .olt (chunk sq p b c) m1) p1 (chunk sq q b c)) p2)) n

/-- Every row's least key. -/
def minCol (K : FVec F S16x256 .f32) : FVec F S16x1 .f32 :=
  shapeCast S16x1 (multiReduction .minimumf [1] S16 K 0x7F800000#32 reduces_S16x256_S16 (.inl rfl) rfl) shapeCasts_S16_S16x1

/-- The candidates' positions. -/
def pos : IVec S16x256 32 := iota .tc S16x256 32 [1] iota_S16x256_d1_w32

/-- The first position of every row at which its least key lies. -/
def first (K : FVec F S16x256 .f32) : IVec S16x256 1 :=
  cmpi .eq pos (broadcastTo S16x256 (shapeCast S16x1
    (multiReductionI .minsi [1] S16
      (select (cmpf .oeq K (broadcastTo S16x256 (minCol K) broadcasts_S16x1_S16x256)) pos (broadcast S16x256 256#32))
      2147483647#32 reduces_S16x256_S16 rfl) shapeCasts_S16_S16x1) broadcasts_S16x1_S16x256)

/-- The value at the first least key. -/
def valCol (V K : FVec F S16x256 .f32) : FVec F S16x1 .f32 :=
  shapeCast S16x1 (multiReduction .add [1] S16 (select (first K) V (broadcast S16x256 (Scalar.ofBits .f32 0x00000000#32 : F .f32)))
    0x00000000#32 reduces_S16x256_S16 (.inl rfl) rfl) shapeCasts_S16_S16x1

/-- The keys once the first least one is taken. -/
def next (K : FVec F S16x256 .f32) : FVec F S16x256 .f32 :=
  select (first K) (broadcast S16x256 (Scalar.ofBits .f32 0x7F61B1E6#32 : F .f32)) K

/-- Eight columns side by side. -/
def cat8 (a b c d e f g h : FVec F S16x1 .f32) : FVec F S16x8 .f32 :=
  concatenate S16x8 1 [⟨S16x1, a⟩, ⟨S16x1, b⟩, ⟨S16x1, c⟩, ⟨S16x1, d⟩, ⟨S16x1, e⟩, ⟨S16x1, f⟩, ⟨S16x1, g⟩, ⟨S16x1, h⟩]
    concatenates_S16x1_S16x1_S16x1_S16x1_S16x1_S16x1_S16x1_S16x1_S16x8_d1

/-- The two halves of the candidates, widened. -/
def cat2 (x y : FVec F S16x128 .bf16) : FVec F S16x256 .f32 :=
  extf .f32 (concatenate S16x256 1 [⟨S16x128, x⟩, ⟨S16x128, y⟩] concatenates_S16x128_S16x128_S16x256_d1) bitsLt_bf16_f32

/-- The eight least keys of every row. -/
def keys8 (K : FVec F S16x256 .f32) : FVec F S16x8 .f32 :=
  cat8 (minCol K) (minCol (next K)) (minCol (next (next K))) (minCol (next (next (next K))))
    (minCol (next (next (next (next K))))) (minCol (next (next (next (next (next K))))))
    (minCol (next (next (next (next (next (next K))))))) (minCol (next (next (next (next (next (next (next K))))))))

/-- Their values. -/
def vals8 (V K : FVec F S16x256 .f32) : FVec F S16x8 .f32 :=
  cat8 (valCol V K) (valCol V (next K)) (valCol V (next (next K))) (valCol V (next (next (next K))))
    (valCol V (next (next (next (next K))))) (valCol V (next (next (next (next (next K))))))
    (valCol V (next (next (next (next (next (next K))))))) (valCol V (next (next (next (next (next (next (next K))))))))

/-- What a block stores: the eight columns, each row's norm added at the last column tile. -/
def addNorm (v18 : BitVec 1) (t : FVec F S16x8 .f32) (x : Vec F S16x512 .bf16) : FVec F S16x8 .f32 :=
  Scalar.select v18 (addf t (broadcastTo S16x8 (shapeCast S16x1
    (multiReduction .add [1] S16 (mulf (extf .f32 (shapeCast S16x512 x shapeCasts_S16x512_S16x512) bitsLt_bf16_f32)
      (extf .f32 (shapeCast S16x512 x shapeCasts_S16x512_S16x512) bitsLt_bf16_f32)) 0x00000000#32 reduces_S16x512_S16 (.inl rfl) rfl)
    shapeCasts_S16_S16x1) broadcasts_S16x1_S16x8)) t

/-- One block of 16 rows: the fold, the extraction and the two stores, then `k`. -/
def block (arg2 : Memref sig .tc .vmem S512x512 .bf16) (arg3 : Memref sig .tc .vmem S512x512 .bf16)
    (arg5 : Memref sig .tc .vmem S512x8 .f32) (arg6 : Memref sig .tc .vmem S512x8 .f32)
    (sq : FVec F S1x4096 .f32) (p q : FVec F S512x4096 .f32) (v18 : BitVec 1) (b : Nat)
    (k : Prog (TpuEff nD τ sig (Elt F) Λ₀ .tc) PUnit) : Prog (TpuEff nD τ sig (Elt F) Λ₀ .tc) PUnit :=
  fold2 sq p q b (fun m1 p1 m2 p2 =>
    .op (.load arg2 (Rect.unit (s := S512x512) ![16 * (b % 32), 0] S16x512.size (inX b)).toLoadRect (View.loadsAt_vmem h_S16x512)) fun x =>
    .op (.load arg3 (Rect.unit (s := S512x512) ![16 * (b % 32), 0] S16x512.size (inX b)).toLoadRect (View.loadsAt_vmem h_S16x512)) fun xd =>
    .op (.load arg5 (Rect.unit (s := S512x8) ![16 * (b % 32), 0] S16x8.size (inO b)).toLoadRect (View.loadsAt_vmem h_S16x8)) fun _ =>
    .op (.store arg5 (Rect.unit (s := S512x8) ![16 * (b % 32), 0] S16x8.size (inO b)) (addNorm v18 (keys8 (cat2 m1 m2)) x) Finset.univ (View.stores_vmem_bits_univ h_S16x8 rfl) (.inl rfl)) fun _ =>
    .op (.load arg6 (Rect.unit (s := S512x8) ![16 * (b % 32), 0] S16x8.size (inO b)).toLoadRect (View.loadsAt_vmem h_S16x8)) fun _ =>
    .op (.store arg6 (Rect.unit (s := S512x8) ![16 * (b % 32), 0] S16x8.size (inO b)) (addNorm v18 (vals8 (cat2 p1 p2) (cat2 m1 m2)) xd) Finset.univ (View.stores_vmem_bits_univ h_S16x8 rfl) (.inl rfl)) fun _ => k)
    31 1 (chunk sq p b 0) (chunk sq q b 0) (broadcast S16x128 (Scalar.ofBits .bf16 0x7F62#16 : F .bf16))
    (broadcast S16x128 (Scalar.ofBits .bf16 0x0000#16 : F .bf16))

/-- `n` blocks from block `b` on. -/
def blocks (arg2 : Memref sig .tc .vmem S512x512 .bf16) (arg3 : Memref sig .tc .vmem S512x512 .bf16)
    (arg5 : Memref sig .tc .vmem S512x8 .f32) (arg6 : Memref sig .tc .vmem S512x8 .f32)
    (sq : FVec F S1x4096 .f32) (p q : FVec F S512x4096 .f32) (v18 : BitVec 1) (n : Nat) :
    Nat → Prog (TpuEff nD τ sig (Elt F) Λ₀ .tc) PUnit :=
  Nat.rec (fun _ => .ret ⟨⟩) (fun _ ih b => block arg2 arg3 arg5 arg6 sq p q v18 b (ih (b + 1))) n

/-- What the body does before its blocks, once the norms are there: the two products, handed to `k`. -/
def prods (arg2 : Memref sig .tc .vmem S512x512 .bf16) (arg3 : Memref sig .tc .vmem S512x512 .bf16) (arg7 : Memref sig .tc .vmem S1x4096 .f32)
    (v0 : Vec F S4096x512 .bf16) {R : Type} (k : Vec F S1x4096 .f32 → FVec F S512x4096 .f32 → FVec F S512x4096 .f32 → Prog (TpuEff nD τ sig (Elt F) Λ₀ .tc) R) :
    Prog (TpuEff nD τ sig (Elt F) Λ₀ .tc) R :=
  .op (.load arg7 (Rect.unit (s := S1x4096) ![0, 0] S1x4096.size inb_S1x4096_S1x4096_0_0).toLoadRect (View.loadsAt_vmem h_S1x4096)) fun v7 =>
  .op (.load arg2 (Rect.unit (s := S512x512) ![0, 0] S512x512.size inb_S512x512_S512x512_0_0).toLoadRect (View.loadsAt_vmem h_S512x512)) fun v8 =>
  .op (.load arg3 (Rect.unit (s := S512x512) ![0, 0] S512x512.size inb_S512x512_S512x512_0_0).toLoadRect (View.loadsAt_vmem h_S512x512)) fun v13 =>
  k v7
    (matmul dot_S512x512_S4096x512_S512x4096_1_1_0_0_n_n none (mulf (broadcast S512x512 (Scalar.ofBits .bf16 0xC000#16 : F .bf16)) (shapeCast S512x512 v8 shapeCasts_S512x512_S512x512)) (shapeCast S4096x512 v0 shapeCasts_S4096x512_S4096x512) (constant S512x4096 .f32 0x00000000#32))
    (matmul dot_S512x512_S4096x512_S512x4096_1_1_0_0_n_n none (mulf (broadcast S512x512 (Scalar.ofBits .bf16 0xC000#16 : F .bf16)) (shapeCast S512x512 v13 shapeCasts_S512x512_S512x512)) (shapeCast S4096x512 v0 shapeCasts_S4096x512_S4096x512) (constant S512x4096 .f32 0x00000000#32))

/-- Whether this is the first grid point, as the body computes it. -/
def isFirst (i : grid0.Coords) : BitVec 1 :=
  Scalar.cmpi .ne (Scalar.extui (Scalar.andi (Scalar.cmpi .eq (BitVec.ofNat 32 (i 0).val) (0#32)) (Scalar.cmpi .eq (BitVec.ofNat 32 (i 1).val) (0#32)) : BitVec 1) : BitVec 32) (0#32)

/-- The columns' norms. -/
def norms (v0 : Vec F S4096x512 .bf16) : Vec F S1x4096 .f32 :=
  shapeCast S1x4096 (matmul dot_S1x512_S4096x512_S1x4096_1_1_0_0_n_n none (broadcast S1x512 (Scalar.ofBits .bf16 0x3F80#16 : F .bf16)) (mulf (shapeCast S4096x512 v0 shapeCasts_S4096x512_S4096x512) (shapeCast S4096x512 v0 shapeCasts_S4096x512_S4096x512)) (constant S1x4096 .f32 0x00000000#32)) shapeCasts_S1x4096_S1x4096

/-- What the body does before its blocks: the norms at the first grid point, then the two products, handed to `k`. -/
def pre (i : grid0.Coords) (arg2 : Memref sig .tc .vmem S512x512 .bf16) (arg3 : Memref sig .tc .vmem S512x512 .bf16) (arg4 : Memref sig .tc .vmem S4096x512 .bf16) (arg7 : Memref sig .tc .vmem S1x4096 .f32)
    {R : Type} (k : Vec F S1x4096 .f32 → FVec F S512x4096 .f32 → FVec F S512x4096 .f32 → Prog (TpuEff nD τ sig (Elt F) Λ₀ .tc) R) :
    Prog (TpuEff nD τ sig (Elt F) Λ₀ .tc) R :=
  .op (.load arg4 (Rect.unit (s := S4096x512) ![0, 0] S4096x512.size inb_S4096x512_S4096x512_0_0).toLoadRect (View.loadsAt_vmem h_S4096x512)) fun v0 =>
  if h : isFirst i = 1#1 then
    .op (.load arg7 (Rect.unit (s := S1x4096) ![0, 0] S1x4096.size inb_S1x4096_S1x4096_0_0).toLoadRect (View.loadsAt_vmem h_S1x4096)) fun _ =>
    .op (.store arg7 (Rect.unit (s := S1x4096) ![0, 0] S1x4096.size inb_S1x4096_S1x4096_0_0) (norms v0) Finset.univ (View.stores_vmem_bits_univ h_S1x4096 rfl) (.inl rfl)) fun _ =>
    prods arg2 arg3 arg7 v0 k
  else prods arg2 arg3 arg7 v0 k

/-- What follows the first part may be joined to what it hands on to. -/
theorem pre_bind (i : grid0.Coords) (arg2 : Memref sig .tc .vmem S512x512 .bf16) (arg3 : Memref sig .tc .vmem S512x512 .bf16) (arg4 : Memref sig .tc .vmem S4096x512 .bf16) (arg7 : Memref sig .tc .vmem S1x4096 .f32)
    {R R' : Type} (k : Vec F S1x4096 .f32 → FVec F S512x4096 .f32 → FVec F S512x4096 .f32 → Prog (TpuEff nD τ sig (Elt F) Λ₀ .tc) R)
    (g : R → Prog (TpuEff nD τ sig (Elt F) Λ₀ .tc) R') :
    pre i arg2 arg3 arg4 arg7 k >>= g = pre i arg2 arg3 arg4 arg7 fun a b c => k a b c >>= g := by
  unfold pre
  refine congrArg (Prog.op _) (funext fun v0 => ?_)
  by_cases h : isFirst i = 1#1
  · simp only [dif_pos h]; rfl
  · simp only [dif_neg h]; rfl

/-- The whole body. -/
def body (i : grid0.Coords) (arg2 : Memref sig .tc .vmem S512x512 .bf16) (arg3 : Memref sig .tc .vmem S512x512 .bf16) (arg4 : Memref sig .tc .vmem S4096x512 .bf16)
    (arg5 : Memref sig .tc .vmem S512x8 .f32) (arg6 : Memref sig .tc .vmem S512x8 .f32) (arg7 : Memref sig .tc .vmem S1x4096 .f32) :
    Prog (TpuEff nD τ sig (Elt F) Λ₀ .tc) PUnit :=
  pre i arg2 arg3 arg4 arg7 fun sq p q => blocks arg2 arg3 arg5 arg6 sq p q (Scalar.cmpi .eq (BitVec.ofNat 32 (i 1).val) (0#32)) 32 0

end Cert.KernelIdeal.Top
-- ==== Proof.Top.BodyEq.lean ====
module

public import proofs.«01_k».proof.Proof.Top.Body
public import Idealize.ShloMosaic.Lib.Pipeline.Regions

@[expose] public section

set_option synthInstance.maxSize 4096

noncomputable section

namespace Cert.KernelIdeal.Top

open Idealize.ShloMosaic Idealize.SL.Sem
open Facts Shapes1.Facts₀

variable {F : FTy → Type} [FloatOps F] [Facts]

/-- The first window's results as functions of the norms and the two products. -/
theorem part1_eq (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S512x8 .f32) (harg5 : arg5.IsWhole) (arg6 : Memref sig .tc .vmem S512x8 .f32) (harg6 : arg6.IsWhole) (arg7 : Memref sig .tc .vmem S1x4096 .f32) (harg7 : arg7.IsWhole) :
    k0_part1 (F := F) i arg2 harg2 arg3 harg3 arg4 harg4 arg5 harg5 arg6 harg6 arg7 harg7 =
      pre i arg2 arg3 arg4 arg7 fun sq p q => .ret ⟨sq, p, q, Scalar.cmpi .eq (BitVec.ofNat 32 (i 1).val) (0#32),
        chunk sq p 0 0, chunk sq q 0 0, broadcast S16x128 (Scalar.ofBits .bf16 0x7F62#16 : F .bf16),
        broadcast S16x128 (Scalar.ofBits .bf16 0x0000#16 : F .bf16), chunk sq p 0 1,
        extractStridedSlice S16x128 ![0, 128] q slices_S512x4096_o0_128_S16x128,
        broadcastTo S16x128 (extractStridedSlice S1x128 ![0, 128] sq slices_S1x4096_o0_128_S1x128) broadcasts_S1x128_S16x128⟩ := by
  chain_rfl

/-- A first window followed by two more. -/
theorem seq_eq {α β γ : Type} (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S512x8 .f32) (harg5 : arg5.IsWhole) (arg6 : Memref sig .tc .vmem S512x8 .f32) (harg6 : arg6.IsWhole) (arg7 : Memref sig .tc .vmem S1x4096 .f32) (harg7 : arg7.IsWhole) {p : Prog (TpuEff nD τ Cert.KernelIdeal.sig (Elt F) Λ₀ .tc) α}
    {f : Vec F S1x4096 .f32 → FVec F S512x4096 .f32 → FVec F S512x4096 .f32 → α} (h : p = pre i arg2 arg3 arg4 arg7 fun a b c => .ret (f a b c))
    (k : α → Prog (TpuEff nD τ Cert.KernelIdeal.sig (Elt F) Λ₀ .tc) β) (l : β → Prog (TpuEff nD τ Cert.KernelIdeal.sig (Elt F) Λ₀ .tc) γ) :
    (p >>= k) >>= l = pre i arg2 arg3 arg4 arg7 fun a b c => k (f a b c) >>= l := by
  subst h
  rw [pre_bind, pre_bind]
  rfl

/-- The printed body is the folded one. -/
theorem body_eq (i : grid0.Coords) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S512x8 .f32) (harg5 : arg5.IsWhole) (arg6 : Memref sig .tc .vmem S512x8 .f32) (harg6 : arg6.IsWhole) (arg7 : Memref sig .tc .vmem S1x4096 .f32) (harg7 : arg7.IsWhole) :
    cc0__topk_body (F := F) i arg2 harg2 arg3 harg3 arg4 harg4 arg5 harg5 arg6 harg6 arg7 harg7 =
      body i arg2 arg3 arg4 arg5 arg6 arg7 := by
  unfold cc0__topk_body k0_part419 body
  refine (seq_eq i arg2 harg2 arg3 harg3 arg4 harg4 arg5 harg5 arg6 harg6 arg7 harg7
    (part1_eq i arg2 harg2 arg3 harg3 arg4 harg4 arg5 harg5 arg6 harg6 arg7 harg7) _ _).trans
    (congrArg (pre i arg2 arg3 arg4 arg7) (funext fun sq => funext fun p => funext fun q => ?_))
  chain_rfl

end Cert.KernelIdeal.Top
-- ==== Proof.Top.Run.lean ====
module

public import proofs.«01_k».proof.Proof.Top.BodyEq
public import proofs.«01_k».proof.Proof.Gen.KernelIdeal.Points
public import Idealize.ShloMosaic.Lib.ValueIdxCore
public import Idealize.ShloMosaic.Lib.WritesUnit
public import Idealize.ShloMosaic.Lib.Tactic
public import Idealize.ShloMosaic.Lib.VecWindow

@[expose] public section

set_option synthInstance.maxSize 4096

noncomputable section

namespace Cert.KernelIdeal.Top

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)
open Facts Shapes1.Facts₀

variable {F : FTy → Type} [FloatOps F]

local notation "𝕄" => MT nD τ sig Unit (Elt F) ℕ (UR sig nD τ) ℕ

/-- The two least of a block's 32 chunks per lane, with their values: the least, its value, the next, its value. -/
def top2 (sq : FVec F S1x4096 .f32) (p q : FVec F S512x4096 .f32) (b : Nat) :
    FVec F S16x128 .bf16 × FVec F S16x128 .bf16 × FVec F S16x128 .bf16 × FVec F S16x128 .bf16 :=
  fold2 sq p q b (fun m1 p1 m2 p2 => (m1, p1, m2, p2)) 31 1 (chunk sq p b 0) (chunk sq q b 0)
    (broadcast S16x128 (Scalar.ofBits .bf16 0x7F62#16 : F .bf16)) (broadcast S16x128 (Scalar.ofBits .bf16 0x0000#16 : F .bf16))

/-- The fold hands its continuation what the fold that only collects gives. -/
theorem fold2_eq {R : Type _} (sq : FVec F S1x4096 .f32) (p q : FVec F S512x4096 .f32) (b : Nat)
    (k : FVec F S16x128 .bf16 → FVec F S16x128 .bf16 → FVec F S16x128 .bf16 → FVec F S16x128 .bf16 → R) (n : Nat) :
    ∀ (c : Nat) (m1 p1 m2 p2 : FVec F S16x128 .bf16), fold2 sq p q b k n c m1 p1 m2 p2 =
      (fun t => k t.1 t.2.1 t.2.2.1 t.2.2.2) (fold2 sq p q b (fun m1 p1 m2 p2 => (m1, p1, m2, p2)) n c m1 p1 m2 p2) := by
  induction n with
  | zero => intros; rfl
  | succ n ih => intro c m1 p1 m2 p2; exact ih _ _ _ _ _

/-- A block's candidate keys. -/
def candK (sq : FVec F S1x4096 .f32) (p q : FVec F S512x4096 .f32) (b : Nat) : FVec F S16x256 .f32 :=
  cat2 (top2 sq p q b).1 (top2 sq p q b).2.2.1

/-- Their values. -/
def candV (sq : FVec F S1x4096 .f32) (p q : FVec F S512x4096 .f32) (b : Nat) : FVec F S16x256 .f32 :=
  cat2 (top2 sq p q b).2.1 (top2 sq p q b).2.2.2

/-- The 16 rows of a window at which block `b` lies. -/
def rows (x : Vec F S512x512 .bf16) (b : Nat) : Vec F S16x512 .bf16 :=
  fun y => x ((Rect.unit (s := S512x512) ![16 * (b % 32), 0] S16x512.size (inX b)).emb y)

/-- What block `b` stores to the first output. -/
def outA (x : Vec F S512x512 .bf16) (sq : FVec F S1x4096 .f32) (p q : FVec F S512x4096 .f32) (v18 : BitVec 1) (b : Nat) : FVec F S16x8 .f32 :=
  addNorm v18 (keys8 (candK sq p q b)) (rows x b)

/-- What block `b` stores to the second output. -/
def outB (x : Vec F S512x512 .bf16) (sq : FVec F S1x4096 .f32) (p q : FVec F S512x4096 .f32) (v18 : BitVec 1) (b : Nat) : FVec F S16x8 .f32 :=
  addNorm v18 (vals8 (candV sq p q b) (candK sq p q b)) (rows x b)

/-- One block's run: the inputs as they were, each output with the block's rows written. -/
theorem block_run (c : Dev nD) (arg2 : Memref sig .tc .vmem S512x512 .bf16) (arg3 : Memref sig .tc .vmem S512x512 .bf16)
    (arg5 : Memref sig .tc .vmem S512x8 .f32) (arg6 : Memref sig .tc .vmem S512x8 .f32)
    (sq : FVec F S1x4096 .f32) (p q : FVec F S512x4096 .f32) (v18 : BitVec 1) (b : Nat)
    (k : Prog (TpuEff nD τ sig (Elt F) Λ₀ .tc) PUnit)
    (f2 : arg2.view.ty.Contents (Elt F)) (f3 : arg3.view.ty.Contents (Elt F))
    (f5 : arg5.view.ty.Contents (Elt F)) (f6 : arg6.view.ty.Contents (Elt F)) (E : Set ℕ) (K : PUnit → sProp 𝕄) :
    iprop((arg2.view.loc (c : Thread nD τ) ↦[arg2.view.set]{fullShare} f2) ∗ (arg3.view.loc (c : Thread nD τ) ↦[arg3.view.set]{fullShare} f3)
        ∗ (arg5.view.loc (c : Thread nD τ) ↦[arg5.view.set]{fullShare} f5) ∗ (arg6.view.loc (c : Thread nD τ) ↦[arg6.view.set]{fullShare} f6)
        ∗ (iprop((arg2.view.loc (c : Thread nD τ) ↦[arg2.view.set]{fullShare} f2) ∗ (arg3.view.loc (c : Thread nD τ) ↦[arg3.view.set]{fullShare} f3)
            ∗ (arg5.view.loc (c : Thread nD τ) ↦[arg5.view.set]{fullShare} (arg5.view.writes (Elt F) f5
                [⟨Rect.unit (s := S512x8) ![16 * (b % 32), 0] S16x8.size (inO b), outA (arg2.view.read (Elt F) f2) sq p q v18 b⟩]))
            ∗ (arg6.view.loc (c : Thread nD τ) ↦[arg6.view.set]{fullShare} (arg6.view.writes (Elt F) f6
                [⟨Rect.unit (s := S512x8) ![16 * (b % 32), 0] S16x8.size (inO b), outB (arg3.view.read (Elt F) f3) sq p q v18 b⟩])))
          -∗ wp frame (wpE (defs₀ (F := F)) Variants.none c none) E k K))
      ⊢ wp frame (wpE (defs₀ (F := F)) Variants.none c none) E (block arg2 arg3 arg5 arg6 sq p q v18 b k) K := by
  unfold block
  rw [fold2_eq]
  iintro ⟨H2, H3, H5, H6, Hk⟩
  sl_exec
  iapply Hk
  isplitl [H2]; · iexact H2
  isplitl [H3]; · iexact H3
  isplitl [H5]; · iexact H5
  iexact H6

/-- A row of a window within its block of 16. -/
def inBlock (y : S512x8.Idx) : S16x8.Idx := ix2 ⟨(y 0).val % 16, Nat.mod_lt _ (by decide)⟩ (y 1)

/-- The window that the blocks fill: row `r` is row `r % 16` of block `r / 16`. -/
def glue (f : Nat → FVec F S16x8 .f32) : Vec F S512x8 .f32 := fun y => f ((y 0).val / 16) (inBlock y)

/-- A buffer whose rows below block `b` are the glued blocks' still is so after block `b` is written. -/
theorem glue_step (arg : Memref sig .tc .vmem S512x8 .f32) (f : arg.view.ty.Contents (Elt F)) (G : Nat → FVec F S16x8 .f32) (b : Nat)
    (hb : b < 32) (h : ∀ y : S512x8.Idx, (y 0).val < 16 * b → arg.view.read (Elt F) f y = glue G y) :
    ∀ y : S512x8.Idx, (y 0).val < 16 * (b + 1) → arg.view.read (Elt F) (arg.view.writes (Elt F) f
      [⟨Rect.unit (s := S512x8) ![16 * (b % 32), 0] S16x8.size (inO b), G b⟩]) y = glue G y := by
  intro y hy
  have e : b % 32 = b := Nat.mod_eq_of_lt hb
  by_cases hlt : (y 0).val < 16 * b
  · rw [← h y hlt]
    exact View.read_writes_cons_rows_of_not_mem (W := 16) arg.view f (inO b) (G b) [] y rfl rfl (Or.inl (by rw [e]; exact hlt))
  · have hd : (y 0).val / 16 = b := by omega
    have hm : glue G y = G b (inBlock y) := by unfold glue; rw [hd]
    rw [hm]
    refine View.read_writes_cons_rows_of_mem arg.view f (inO b) (G b) [] y (inBlock y) rfl ?_ rfl
    show (y 0).val = 16 * (b % 32) + (y 0).val % 16
    omega

/-- The run of the blocks from block `b` to the last. -/
theorem blocks_run (c : Dev nD) (arg2 : Memref sig .tc .vmem S512x512 .bf16) (arg3 : Memref sig .tc .vmem S512x512 .bf16)
    (arg5 : Memref sig .tc .vmem S512x8 .f32) (arg6 : Memref sig .tc .vmem S512x8 .f32)
    (sq : FVec F S1x4096 .f32) (p q : FVec F S512x4096 .f32) (v18 : BitVec 1)
    (f2 : arg2.view.ty.Contents (Elt F)) (f3 : arg3.view.ty.Contents (Elt F)) (E : Set ℕ) (K : PUnit → sProp 𝕄) (n : Nat) :
    ∀ (b : Nat) (hb : b + n = 32) (f5 : arg5.view.ty.Contents (Elt F)) (f6 : arg6.view.ty.Contents (Elt F))
      (h5 : ∀ y : S512x8.Idx, (y 0).val < 16 * b → arg5.view.read (Elt F) f5 y = glue (outA (arg2.view.read (Elt F) f2) sq p q v18) y)
      (h6 : ∀ y : S512x8.Idx, (y 0).val < 16 * b → arg6.view.read (Elt F) f6 y = glue (outB (arg3.view.read (Elt F) f3) sq p q v18) y),
    iprop((arg2.view.loc (c : Thread nD τ) ↦[arg2.view.set]{fullShare} f2) ∗ (arg3.view.loc (c : Thread nD τ) ↦[arg3.view.set]{fullShare} f3)
        ∗ (arg5.view.loc (c : Thread nD τ) ↦[arg5.view.set]{fullShare} f5) ∗ (arg6.view.loc (c : Thread nD τ) ↦[arg6.view.set]{fullShare} f6)
        ∗ (iprop((arg2.view.loc (c : Thread nD τ) ↦[arg2.view.set]{fullShare} f2) ∗ (arg3.view.loc (c : Thread nD τ) ↦[arg3.view.set]{fullShare} f3)
            ∗ owns (c : Thread nD τ) arg5 fullShare (glue (outA (arg2.view.read (Elt F) f2) sq p q v18))
            ∗ owns (c : Thread nD τ) arg6 fullShare (glue (outB (arg3.view.read (Elt F) f3) sq p q v18)))
          -∗ K ⟨⟩))
      ⊢ wp frame (wpE (defs₀ (F := F)) Variants.none c none) E (blocks arg2 arg3 arg5 arg6 sq p q v18 n b) K := by
  induction n with
  | zero =>
    intro b hb f5 f6 h5 h6
    show _ ⊢ wp frame (wpE (defs₀ (F := F)) Variants.none c none) E (.ret ⟨⟩) K
    unfold owns
    iintro ⟨H2, H3, H5, H6, Hk⟩
    sl_step
    iapply Hk
    isplitl [H2]; · iexact H2
    isplitl [H3]; · iexact H3
    isplitl [H5]
    · iexists f5; isplitr; · ipureintro; exact funext fun y => h5 y (by have := (y 0).isLt; have : S512x8.size 0 = 512 := rfl; omega)
      iexact H5
    · iexists f6; isplitr; · ipureintro; exact funext fun y => h6 y (by have := (y 0).isLt; have : S512x8.size 0 = 512 := rfl; omega)
      iexact H6
  | succ n ih =>
    intro b hb f5 f6 h5 h6
    show _ ⊢ wp frame (wpE (defs₀ (F := F)) Variants.none c none) E (block arg2 arg3 arg5 arg6 sq p q v18 b (blocks arg2 arg3 arg5 arg6 sq p q v18 n (b + 1))) K
    iintro ⟨H2, H3, H5, H6, Hk⟩
    iapply (block_run c arg2 arg3 arg5 arg6 sq p q v18 b _ f2 f3 f5 f6 E K)
    isplitl [H2]; · iexact H2
    isplitl [H3]; · iexact H3
    isplitl [H5]; · iexact H5
    isplitl [H6]; · iexact H6
    iintro ⟨H2, H3, H5, H6⟩
    iapply (ih (b + 1) (by omega) _ _ (glue_step arg5 f5 _ b (by omega) h5) (glue_step arg6 f6 _ b (by omega) h6))
    isplitl [H2]; · iexact H2
    isplitl [H3]; · iexact H3
    isplitl [H5]; · iexact H5
    isplitl [H6]; · iexact H6
    iexact Hk

/-- The product that the fold reads: minus twice a window's rows against all rows. -/
def prod (x : Vec F S512x512 .bf16) (v0 : Vec F S4096x512 .bf16) : FVec F S512x4096 .f32 :=
  matmul dot_S512x512_S4096x512_S512x4096_1_1_0_0_n_n none (mulf (broadcast S512x512 (Scalar.ofBits .bf16 0xC000#16 : F .bf16)) (shapeCast S512x512 x shapeCasts_S512x512_S512x512)) (shapeCast S4096x512 v0 shapeCasts_S4096x512_S4096x512) (constant S512x4096 .f32 0x00000000#32)

/-- The first output's window, from the window's rows `x`, the other argument's rows `xd`, all rows `v0` and the norms `sq`. -/
def winA (x xd : Vec F S512x512 .bf16) (v0 : Vec F S4096x512 .bf16) (sq : Vec F S1x4096 .f32) (v18 : BitVec 1) : Vec F S512x8 .f32 :=
  glue (outA x sq (prod x v0) (prod xd v0) v18)

/-- The second output's window. -/
def winB (x xd : Vec F S512x512 .bf16) (v0 : Vec F S4096x512 .bf16) (sq : Vec F S1x4096 .f32) (v18 : BitVec 1) : Vec F S512x8 .f32 :=
  glue (outB xd sq (prod x v0) (prod xd v0) v18)

/-- Whether a point is in the last column tile, as the body computes it. -/
def isLast (i : grid0.Coords) : BitVec 1 := Scalar.cmpi .eq (BitVec.ofNat 32 (i 1).val) (0#32)

/-- What precedes the blocks, at a point that finds the norms there. -/
theorem pre_next (c : Dev nD) (i : grid0.Coords) (hi : ¬ isFirst i = 1#1) (arg2 : Memref sig .tc .vmem S512x512 .bf16) (arg3 : Memref sig .tc .vmem S512x512 .bf16) (arg4 : Memref sig .tc .vmem S4096x512 .bf16) (arg7 : Memref sig .tc .vmem S1x4096 .f32)
    (f2 : arg2.view.ty.Contents (Elt F)) (f3 : arg3.view.ty.Contents (Elt F)) (f4 : arg4.view.ty.Contents (Elt F)) (f7 : arg7.view.ty.Contents (Elt F))
    (k : Vec F S1x4096 .f32 → FVec F S512x4096 .f32 → FVec F S512x4096 .f32 → Prog (TpuEff nD τ sig (Elt F) Λ₀ .tc) PUnit)
    (E : Set ℕ) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7))
          -∗ wp frame (wpE (defs₀ (F := F)) Variants.none c none) E (k (arg7.view.read (Elt F) f7)
            (prod (arg2.view.read (Elt F) f2) (arg4.view.read (Elt F) f4)) (prod (arg3.view.read (Elt F) f3) (arg4.view.read (Elt F) f4))) K))
      ⊢ wp frame (wpE (defs₀ (F := F)) Variants.none c none) E (pre i arg2 arg3 arg4 arg7 k) K := by
  have e2 := View.readAt_full (Val := Elt F) arg2.view f2 inb_S512x512_S512x512_0_0
  have e3 := View.readAt_full (Val := Elt F) arg3.view f3 inb_S512x512_S512x512_0_0
  have e4 := View.readAt_full (Val := Elt F) arg4.view f4 inb_S4096x512_S4096x512_0_0
  have e7 := View.readAt_full (Val := Elt F) arg7.view f7 inb_S1x4096_S1x4096_0_0
  unfold pre prods prod
  simp only [dif_neg hi]
  iintro ⟨H2, H3, H4, H7, Hk⟩
  sl_exec
  iapply Hk
  isplitl [H2]; · iexact H2
  isplitl [H3]; · iexact H3
  isplitl [H4]; · iexact H4
  iexact H7

/-- What precedes the blocks, at the first point: the norms are stored. -/
theorem pre_first (c : Dev nD) (i : grid0.Coords) (hi : isFirst i = 1#1) (arg2 : Memref sig .tc .vmem S512x512 .bf16) (arg3 : Memref sig .tc .vmem S512x512 .bf16) (arg4 : Memref sig .tc .vmem S4096x512 .bf16) (arg7 : Memref sig .tc .vmem S1x4096 .f32)
    (f2 : arg2.view.ty.Contents (Elt F)) (f3 : arg3.view.ty.Contents (Elt F)) (f4 : arg4.view.ty.Contents (Elt F)) (f7 : arg7.view.ty.Contents (Elt F))
    (k : Vec F S1x4096 .f32 → FVec F S512x4096 .f32 → FVec F S512x4096 .f32 → Prog (TpuEff nD τ sig (Elt F) Λ₀ .tc) PUnit)
    (E : Set ℕ) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ owns (c : Thread nD τ) arg7 fullShare (norms (arg4.view.read (Elt F) f4)))
          -∗ wp frame (wpE (defs₀ (F := F)) Variants.none c none) E (k (norms (arg4.view.read (Elt F) f4))
            (prod (arg2.view.read (Elt F) f2) (arg4.view.read (Elt F) f4)) (prod (arg3.view.read (Elt F) f3) (arg4.view.read (Elt F) f4))) K))
      ⊢ wp frame (wpE (defs₀ (F := F)) Variants.none c none) E (pre i arg2 arg3 arg4 arg7 k) K := by
  have e2 := View.readAt_full (Val := Elt F) arg2.view f2 inb_S512x512_S512x512_0_0
  have e3 := View.readAt_full (Val := Elt F) arg3.view f3 inb_S512x512_S512x512_0_0
  have e4 := View.readAt_full (Val := Elt F) arg4.view f4 inb_S4096x512_S4096x512_0_0
  have e7 := View.readAt_full (Val := Elt F) arg7.view f7 inb_S1x4096_S1x4096_0_0
  unfold pre prods prod
  simp only [dif_pos hi]
  unfold owns
  iintro ⟨H2, H3, H4, H7, Hk⟩
  sl_exec
  have ev : pre_first.sl.v7 arg4 arg7 f4 = norms (arg4.view.read (Elt F) f4) := View.readCov_full arg7.view inb_S1x4096_S1x4096_0_0 inb_S1x4096_S1x4096_0_0 _ []
  rw [ev]
  iapply Hk
  isplitl [H2]; · iexact H2
  isplitl [H3]; · iexact H3
  isplitl [H4]; · iexact H4
  iexists _; isplitr; swap; · iexact H7
  ipureintro
  exact View.read_writes_full arg7.view f7 inb_S1x4096_S1x4096_0_0 _ []

/-- The body's run at a point that finds the norms there. -/
theorem run_next (c : Dev nD) (i : grid0.Coords) (hi : ¬ isFirst i = 1#1) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S512x8 .f32) (harg5 : arg5.IsWhole) (arg6 : Memref sig .tc .vmem S512x8 .f32) (harg6 : arg6.IsWhole) (arg7 : Memref sig .tc .vmem S1x4096 .f32) (harg7 : arg7.IsWhole)
    (x0 x1 : Vec F S512x512 .bf16) (x2 : Vec F S4096x512 .bf16) (sq : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare sq
        ∗ (iprop(owns (c : Thread nD τ) arg2 fullShare x0 ∗ owns (c : Thread nD τ) arg3 fullShare x1 ∗ owns (c : Thread nD τ) arg4 fullShare x2
            ∗ owns (c : Thread nD τ) arg5 fullShare (winA x0 x1 x2 sq (isLast i)) ∗ owns (c : Thread nD τ) arg6 fullShare (winB x0 x1 x2 sq (isLast i))
            ∗ owns (c : Thread nD τ) arg7 fullShare sq) -∗ K ⟨⟩))
      ⊢ wp frame (wpE (defs₀ (F := F)) Variants.none c none) E (cc0__topk_body i arg2 harg2 arg3 harg3 arg4 harg4 arg5 harg5 arg6 harg6 arg7 harg7) K := by
  rw [body_eq]
  unfold body
  iintro ⟨H0, H1, H2, H3, H4, HS, Hk⟩
  unfold owns winA winB isLast
  icases H0 with ⟨%f0, %hf0, H0⟩
  icases H1 with ⟨%f1, %hf1, H1⟩
  icases H2 with ⟨%f2, %hf2, H2⟩
  icases H3 with ⟨%d3, %f3, -, H3⟩
  icases H4 with ⟨%d4, %f4, -, H4⟩
  icases HS with ⟨%fs, %hfs, HS⟩
  subst hf0 hf1 hf2 hfs
  iapply (pre_next c i hi arg2 arg3 arg4 arg7 f0 f1 f2 fs _ E K)
  isplitl [H0]; · iexact H0
  isplitl [H1]; · iexact H1
  isplitl [H2]; · iexact H2
  isplitl [HS]; · iexact HS
  iintro ⟨H0, H1, H2, HS⟩
  iapply (blocks_run c arg2 arg3 arg5 arg6 _ _ _ _ f0 f1 E K 32 0 rfl f3 f4 (fun y h => absurd h (Nat.not_lt_zero _)) (fun y h => absurd h (Nat.not_lt_zero _)))
  isplitl [H0]; · iexact H0
  isplitl [H1]; · iexact H1
  isplitl [H3]; · iexact H3
  isplitl [H4]; · iexact H4
  unfold owns
  iintro ⟨H0, H1, H3, H4⟩
  iapply Hk
  isplitl [H0]; · iexists f0; isplitr; swap; · iexact H0
                  ipureintro; rfl
  isplitl [H1]; · iexists f1; isplitr; swap; · iexact H1
                  ipureintro; rfl
  isplitl [H2]; · iexists f2; isplitr; swap; · iexact H2
                  ipureintro; rfl
  isplitl [H3]; · iexact H3
  isplitl [H4]; · iexact H4
  iexists fs; isplitr; swap; · iexact HS
  ipureintro; rfl

/-- The body's run at the first point: it stores the norms. -/
theorem run_first (c : Dev nD) (i : grid0.Coords) (hi : isFirst i = 1#1) (arg2 : Memref sig .tc .vmem S512x512 .bf16) (harg2 : arg2.IsWhole) (arg3 : Memref sig .tc .vmem S512x512 .bf16) (harg3 : arg3.IsWhole) (arg4 : Memref sig .tc .vmem S4096x512 .bf16) (harg4 : arg4.IsWhole) (arg5 : Memref sig .tc .vmem S512x8 .f32) (harg5 : arg5.IsWhole) (arg6 : Memref sig .tc .vmem S512x8 .f32) (harg6 : arg6.IsWhole) (arg7 : Memref sig .tc .vmem S1x4096 .f32) (harg7 : arg7.IsWhole)
    (x0 x1 : Vec F S512x512 .bf16) (x2 : Vec F S4096x512 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (winA x0 x1 x2 (norms x2) (isLast i)) ∗ owns (c : Thread nD τ) arg6 fullShare (winB x0 x1 x2 (norms x2) (isLast i))
            ∗ owns (c : Thread nD τ) arg7 fullShare (norms x2)) -∗ K ⟨⟩))
      ⊢ wp frame (wpE (defs₀ (F := F)) Variants.none c none) E (cc0__topk_body i arg2 harg2 arg3 harg3 arg4 harg4 arg5 harg5 arg6 harg6 arg7 harg7) K := by
  rw [body_eq]
  unfold body
  iintro ⟨H0, H1, H2, H3, H4, HS, Hk⟩
  unfold owns winA winB isLast
  icases H0 with ⟨%f0, %hf0, H0⟩
  icases H1 with ⟨%f1, %hf1, H1⟩
  icases H2 with ⟨%f2, %hf2, H2⟩
  icases H3 with ⟨%d3, %f3, -, H3⟩
  icases H4 with ⟨%d4, %f4, -, H4⟩
  icases HS with ⟨%ds, %fs, -, HS⟩
  subst hf0 hf1 hf2
  iapply (pre_first c i hi arg2 arg3 arg4 arg7 f0 f1 f2 fs _ E K)
  isplitl [H0]; · iexact H0
  isplitl [H1]; · iexact H1
  isplitl [H2]; · iexact H2
  isplitl [HS]; · iexact HS
  iintro ⟨H0, H1, H2, HS⟩
  iapply (blocks_run c arg2 arg3 arg5 arg6 _ _ _ _ f0 f1 E K 32 0 rfl f3 f4 (fun y h => absurd h (Nat.not_lt_zero _)) (fun y h => absurd h (Nat.not_lt_zero _)))
  isplitl [H0]; · iexact H0
  isplitl [H1]; · iexact H1
  isplitl [H3]; · iexact H3
  isplitl [H4]; · iexact H4
  unfold owns
  iintro ⟨H0, H1, H3, H4⟩
  iapply Hk
  isplitl [H0]; · iexists f0; isplitr; swap; · iexact H0
                  ipureintro; rfl
  isplitl [H1]; · iexists f1; isplitr; swap; · iexact H1
                  ipureintro; rfl
  isplitl [H2]; · iexists f2; isplitr; swap; · iexact H2
                  ipureintro; rfl
  isplitl [H3]; · iexact H3
  isplitl [H4]; · iexact H4
  iexact HS

end Cert.KernelIdeal.Top
-- ==== Proof.Top.Call0.lean ====
/-
  The first call as the pipeline runs it: what each window's staging buffer holds before and after every grid point, the
  norms kept in scratch from the first point on, and the obligation that the body meets at each point.
-/
module

public import proofs.«01_k».proof.Proof.Top.Run
public import proofs.«01_k».proof.Proof.Gen.KernelIdeal.Launch
public import Idealize.ShloMosaic.Lib.Pipeline.FrameBody
public import Idealize.ShloMosaic.Lib.WordCmp
public import Idealize.ShloMosaic.Lib.Pipeline.RegionsLoop

@[expose] public section

noncomputable section

namespace Cert.KernelIdeal.Top

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- The block that window `w` fetches at point `t`, read off the arrays as the call finds them. -/
abbrev iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The norms of all columns, as the first point computes them. -/
abbrev sqAll (c : Dev nD) : Vec F S1x4096 .f32 := norms (iblk V c 2 t0_0)

/-- Before the first point the scratch holds anything; afterwards it holds the norms. -/
def scr (c : Dev nD) (t : Fin (cfg0.N + 1)) : sProp 𝕄 :=
  if t.val = 0 then iprop(∃ d, owns (c : Thread nD τ) (Memref.whole cc0_scratch0) fullShare d)
  else owns (c : Thread nD τ) (Memref.whole cc0_scratch0) fullShare (sqAll V c)

/-- The other buffers that the call does not touch. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The first call's proof data. -/
def dat0 (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => winA (iblk V c 0 t) (iblk V c 1 t) (iblk V c 2 t) (sqAll V c) (isLast (grid0.coords t))
    | ⟨4, _⟩ => winB (iblk V c 0 t) (iblk V c 1 t) (iblk V c 2 t) (sqAll V c) (isLast (grid0.coords t))
  Φ t := iprop(scr V c t ∗ others c)
  q w := Pipeline.shareOf spec0 w
  owed _ := 0

/-- The arrays that the call starts from. -/
theorem A0_eq (c : Dev nD) (w : Fin cfg0.W) : (dat0 V c).A w = V c (Proc.devRef .tc (Pipeline.arrRef spec0 w)) := by
  dsimp only [dat0]
/-- The first operand's block is left as it was. -/
theorem after0_0 (c : Dev nD) (t : Fin cfg0.N) : (dat0 V c).after 0 t = iblk V c 0 t := by dsimp only [dat0]
/-- The second operand's block is left as it was. -/
theorem after0_1 (c : Dev nD) (t : Fin cfg0.N) : (dat0 V c).after 1 t = iblk V c 1 t := by dsimp only [dat0]
/-- The third operand's block is left as it was. -/
theorem after0_2 (c : Dev nD) (t : Fin cfg0.N) : (dat0 V c).after 2 t = iblk V c 2 t := by dsimp only [dat0]
/-- What the first result's block holds after a point. -/
theorem after0_3 (c : Dev nD) (t : Fin cfg0.N) : (dat0 V c).after 3 t = winA (iblk V c 0 t) (iblk V c 1 t) (iblk V c 2 t) (sqAll V c) (isLast (grid0.coords t)) := by
  dsimp only [dat0]
/-- What the second result's block holds after a point. -/
theorem after0_4 (c : Dev nD) (t : Fin cfg0.N) : (dat0 V c).after 4 t = winB (iblk V c 0 t) (iblk V c 1 t) (iblk V c 2 t) (sqAll V c) (isLast (grid0.coords t)) := by
  dsimp only [dat0]

/-- An input window's buffer holds its block when the body runs. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)
/-- What the second operand's block holds before a point. -/
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)
/-- What the third operand's block holds before a point. -/
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)

/-- The norms are stored at the first point only. -/
theorem isFirst_iff : ∀ t : Fin cfg0.N, isFirst (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [isFirst, e0, e1]
    word_cmp
   : ∀ t : Fin grid0.N, isFirst (grid0.coords t) = 1#1 ↔ t.val = 0)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body meets its obligation at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3, after0_4,
    show (dat0 V c).Φ t.castSucc = iprop(scr V c t.castSucc ∗ others c) from rfl,
    show (dat0 V c).Φ t.succ = iprop(scr V c t.succ ∗ others c) from rfl]
  have hs : scr V c t.succ = owns (c : Thread nD τ) (Memref.whole cc0_scratch0) fullShare (sqAll V c) := if_neg (Nat.succ_ne_zero _)
  rw [hs]
  by_cases h0 : t.val = 0
  · have hp : scr V c t.castSucc = iprop(∃ d, owns (c : Thread nD τ) (Memref.whole cc0_scratch0) fullShare d) := if_pos h0
    have ht : t = t0_0 := Fin.ext h0
    rw [hp]
    iintro ⟨⟨HS, Hg⟩, Ho, ⟨%d0, H0⟩, ⟨%d1, H1⟩, ⟨%d2, H2⟩, ⟨%d3, H3⟩, ⟨%d4, H4⟩⟩
    iapply (run_first c (grid0.coords t) ((isFirst_iff t).mpr h0) _ _ _ _ _ _ _ _ _ _ _ _ (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    rw [show norms (iblk V c 2 t) = sqAll V c by rw [ht]]
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hp : scr V c t.castSucc = owns (c : Thread nD τ) (Memref.whole cc0_scratch0) fullShare (sqAll V c) := if_neg h0
    rw [hp]
    iintro ⟨⟨HS, Hg⟩, Ho, ⟨%d0, H0⟩, ⟨%d1, H1⟩, ⟨%d2, H2⟩, ⟨%d3, H3⟩, ⟨%d4, H4⟩⟩
    iapply (run_next c (grid0.coords t) (fun h => h0 ((isFirst_iff t).mp h)) _ _ _ _ _ _ _ _ _ _ _ _ (iblk V c 0 t) (iblk V c 1 t) (iblk V c 2 t) (sqAll V c) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The body table's row at point `t` is the body at that point. -/
theorem defs₀_row0 (t : Fin cfg0.N) :
    defs₀ (F := F) .tc cfg0.body (cfg0.bodyArgs t (cfg0.slots t)) = bodyAt0 t := by
  unfold defs₀; rw [Defs.onTc_tc]

/-- The obligation in the pipeline's own words. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Top

end
-- ==== Proof.Top.Call1.lean ====
/-
  The second call: it reads the two arrays whole and leaves one number.
-/
module

public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.VecWindow
public import Idealize.ShloMosaic.Lib.WritesUnit
public import Idealize.ShloMosaic.Lib.Tactic

@[expose] public section

noncomputable section

namespace Cert.KernelIdeal.Top

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
open Facts Shapes1.Facts₀

/-- The number that the second call leaves: the mean of `exp (-a / t) * b`, where `t` is the mean of `a` and a small constant. -/
def fin1 (a b : Vec F S4096x8 .f32) : F .f32 :=
  let v7 : F .f32 := extractAt ![0, 0, 0] (shapeCast S1x1x1 (multiReduction .add [1, 2] S1 (shapeCast S1x4096x8 (shapeCast S4096x8 a shapeCasts_S4096x8_S4096x8) shapeCasts_S4096x8_S1x4096x8) 0x00000000#32 reduces_S1x4096x8_S1 (.inl rfl) rfl : FVec F S1 .f32) shapeCasts_S1_S1x1x1) inpos_S1x1x1_p0_0_0
  let t : F .f32 := Scalar.addf (Scalar.divf v7 (Scalar.ofBits .f32 0x47000000#32)) (Scalar.ofBits .f32 0x3089705F#32)
  let e : FVec F S4096x8 .f32 := exp (divf (subf (broadcast S4096x8 (Scalar.ofBits .f32 0x00000000#32)) (shapeCast S4096x8 a shapeCasts_S4096x8_S4096x8)) (broadcast S4096x8 t))
  let v19 : F .f32 := extractAt ![0, 0, 0] (shapeCast S1x1x1 (multiReduction .add [1, 2] S1 (shapeCast S1x4096x8 (mulf e (shapeCast S4096x8 b shapeCasts_S4096x8_S4096x8)) shapeCasts_S4096x8_S1x4096x8) 0x00000000#32 reduces_S1x4096x8_S1 (.inl rfl) rfl : FVec F S1 .f32) shapeCasts_S1_S1x1x1) inpos_S1x1x1_p0_0_0
  Scalar.divf v19 (Scalar.ofBits .f32 0x47000000#32)

/-- The second body's run. -/
theorem run_fin (c : Dev nD) (M0 : Memref sig .tc .vmem S4096x8 .f32) (h0 : M0.IsWhole) (M1 : Memref sig .tc .vmem S4096x8 .f32) (h1 : M1.IsWhole)
    (M2 : Memref sig .tc .smem S1x1 .f32) (h2 : M2.IsWhole) (a b : Vec F S4096x8 .f32) (E : Set ℕ) (K : PUnit → sProp 𝕄) :
    iprop(owns (c : Thread nD τ) M0 fullShare a ∗ owns (c : Thread nD τ) M1 fullShare b ∗ (∃ d, owns (c : Thread nD τ) M2 fullShare d)
        ∗ (iprop(owns (c : Thread nD τ) M0 fullShare a ∗ owns (c : Thread nD τ) M1 fullShare b ∗ owns (c : Thread nD τ) M2 fullShare (fun _ => fin1 a b)) -∗ K ⟨⟩))
      ⊢ wp frame (wpE (defs₀ (F := F)) Variants.none c none) E (cc1__finalize_body M0 h0 M1 h1 M2 h2) K := by
  iintro ⟨H0, H1, H2, Hk⟩
  unfold owns
  icases H0 with ⟨%f0, %hf0, H0⟩
  icases H1 with ⟨%f1, %hf1, H1⟩
  icases H2 with ⟨%d2, %f2, -, H2⟩
  subst hf0 hf1
  have e0 := View.readAt_full M0.view f0 inb_S4096x8_S4096x8_0_0
  have e1 := View.readAt_full M1.view f1 inb_S4096x8_S4096x8_0_0
  sl_exec
  sl_step
  iapply Hk
  isplitl [H0]; · iexists f0; isplitr; swap; · iexact H0
                  ipureintro; rfl
  isplitl [H1]; · iexists f1; isplitr; swap; · iexact H1
                  ipureintro; rfl
  iexists _; isplitr; swap; · iexact H2
  ipureintro
  refine (View.read_writes_full M2.view f2 inb_S1x1_S1x1_0_0 _ []).trans ?_
  rfl

end

variable (V : (c : Dev nD) → Valuation τ sig (Elt F))

/-- What the second call fetches of window `w`. -/
abbrev jblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The second call's proof data. -/
def dat1 (c : Dev nD) : Dat τ (Elt F) Unit ℕ (UR sig nD τ) ℕ cfg1 c where
  A w := V c (Proc.devRef .tc (Pipeline.arrRef spec1 w))
  after w t := match w with
    | ⟨0, _⟩ => jblk V c 0 t
    | ⟨1, _⟩ => jblk V c 1 t
    | ⟨2, _⟩ => fun _ => fin1 (jblk V c 0 t) (jblk V c 1 t)
  Φ _ := Pipeline.scopedRest (Ix := Unit) (Name := ℕ) (U := UR sig nD τ) (Lvl := ℕ) (Val := Elt F) spec1 c
  q _ := fullShare
  owed _ := 0

/-- The arrays that the second call starts from. -/
theorem A1_eq (c : Dev nD) (w : Fin cfg1.W) : (dat1 V c).A w = V c (Proc.devRef .tc (Pipeline.arrRef spec1 w)) := by
  dsimp only [dat1]
/-- The first operand's block is left as it was. -/
theorem after1_0 (c : Dev nD) (t : Fin cfg1.N) : (dat1 V c).after 0 t = jblk V c 0 t := by dsimp only [dat1]
/-- The second operand's block is left as it was. -/
theorem after1_1 (c : Dev nD) (t : Fin cfg1.N) : (dat1 V c).after 1 t = jblk V c 1 t := by dsimp only [dat1]
/-- What the result's block holds afterwards. -/
theorem after1_2 (c : Dev nD) (t : Fin cfg1.N) : (dat1 V c).after 2 t = fun _ => fin1 (jblk V c 0 t) (jblk V c 1 t) := by dsimp only [dat1]

/-- An input window's buffer holds its array when the body runs. -/
theorem before1_0 (c : Dev nD) (t : Fin cfg1.N) (d) : (dat1 V c).before 0 t d = jblk V c 0 t :=
  ((dat1 V c).before_in_eq_fetched 0 rfl (fun _ => rfl) (fun _ _ _ => rfl) (fun t => by rw [after1_0]; unfold Dat.blockOf jblk; rw [A1_eq]; try rfl) t d).trans
    (by unfold Dat.fetched Dat.blockOf jblk; rw [A1_eq]; try rfl)
/-- What the second operand's block holds before. -/
theorem before1_1 (c : Dev nD) (t : Fin cfg1.N) (d) : (dat1 V c).before 1 t d = jblk V c 1 t :=
  ((dat1 V c).before_in_eq_fetched 1 rfl (fun _ => rfl) (fun _ _ _ => rfl) (fun t => by rw [after1_1]; unfold Dat.blockOf jblk; rw [A1_eq]; try rfl) t d).trans
    (by unfold Dat.fetched Dat.blockOf jblk; rw [A1_eq]; try rfl)

/-- What the second body is called with. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the second body returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The second body meets its obligation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2,
    show (dat1 V c).Φ t.succ = (dat1 V c).Φ t.castSucc from rfl]
  iintro ⟨HS, Ho, ⟨%d0, H0⟩, ⟨%d1, H1⟩, ⟨%d2, H2⟩⟩
  iapply (run_fin c _ _ _ _ _ _ (jblk V c 0 t) (jblk V c 1 t) Set.univ _)
  isplitl [H0]; · iexact H0
  isplitl [H1]; · iexact H1
  isplitl [H2]; · iexists _; iexact H2
  iintro ⟨H0, H1, H2⟩
  isplitl [HS]; · iexact HS
  isplitl [Ho]; · iexact Ho
  isplitl [H0]; · iexact H0
  isplitl [H1]; · iexact H1
  iexact H2

/-- The body table's row of the second call. -/
theorem defs₀_row1 (t : Fin cfg1.N) :
    defs₀ (F := F) .tc cfg1.body (cfg1.bodyArgs t (cfg1.slots t)) = bodyAt1 t := by
  unfold defs₀; rw [Defs.onTc_tc]

/-- The obligation in the pipeline's own words. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end Cert.KernelIdeal.Top

end
-- ==== Proof.Top.Launch.lean ====
/-
  The whole program: the casts on the host, the two calls one after the other, and the reshape of the one number. Every
  unscoped buffer is followed from one item to the next; at the end the arguments are as they were and the result holds
  what the second call left.
-/
module

public import proofs.«01_k».proof.Proof.Top.Call0
public import proofs.«01_k».proof.Proof.Top.Call1
public import proofs.«01_k».proof.Proof.Gen.KernelIdeal.Regions
public import Idealize.ShloMosaic.Lib.Pipeline.RegionArrays

@[expose] public section

noncomputable section

namespace Cert.KernelIdeal.Top

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the items -/

/-- The first call's two arrays, as the pipeline leaves them. -/
def outA0 (c : Dev nD) : Buf (Elt F) ((c : Thread nD τ).loc main_call0_v2_0) := (dat0 (V1 m) c).arrAt 3 cfg0.N
/-- The second result of the first call. -/
def outB0 (c : Dev nD) : Buf (Elt F) ((c : Thread nD τ).loc main_call0_v2_1) := (dat0 (V1 m) c).arrAt 4 cfg0.N

/-- The buffers after the first call. -/
def W2 (c : Dev nD) : Valuation τ sig (Elt F) := Function.update (Function.update (V1 m c) main_call0_v2_0 (outA0 m c)) main_call0_v2_1 (outB0 m c)

/-- The second call's number, as the pipeline leaves it. -/
def outC1 (c : Dev nD) : Buf (Elt F) ((c : Thread nD τ).loc main_call0_v3) := (dat1 (W2 m) c).arrAt 2 cfg1.N

/-- The buffers after the second call. -/
def W3 (c : Dev nD) : Valuation τ sig (Elt F) := Function.update (W2 m c) main_call0_v3 (outC1 m c)

/-- The buffers at the end. -/
def W4 (c : Dev nD) : Valuation τ sig (Elt F) := StableHlo.after hostOps2 (W3 m c)

/-- The first call changes its two results only. -/
theorem W2_of (c : Dev nD) (r : Ref sig .tc) (h0 : r ≠ main_call0_v2_0) (h1 : r ≠ main_call0_v2_1) : W2 m c r = V1 m c r := by
  simp only [W2, Function.update_of_ne (StableHlo.devRef_ne_of_ne h0 : (Proc.devRef .tc r : DevRef τ sig) ≠ Proc.devRef .tc main_call0_v2_0), Function.update_of_ne (StableHlo.devRef_ne_of_ne h1 : (Proc.devRef .tc r : DevRef τ sig) ≠ Proc.devRef .tc main_call0_v2_1)]
/-- The first result after the first call. -/
theorem W2_a (c : Dev nD) : W2 m c main_call0_v2_0 = outA0 m c := by
  simp only [W2, Function.update_of_ne (StableHlo.devRef_ne_of_ne (by decide) : (Proc.devRef .tc main_call0_v2_0 : DevRef τ sig) ≠ Proc.devRef .tc main_call0_v2_1), Function.update_self]
/-- The second result after the first call. -/
theorem W2_b (c : Dev nD) : W2 m c main_call0_v2_1 = outB0 m c := by
  simp only [W2, Function.update_self]
/-- The second call changes its result only. -/
theorem W3_of (c : Dev nD) (r : Ref sig .tc) (h : r ≠ main_call0_v3) : W3 m c r = W2 m c r := by
  simp only [W3, Function.update_of_ne (StableHlo.devRef_ne_of_ne h : (Proc.devRef .tc r : DevRef τ sig) ≠ Proc.devRef .tc main_call0_v3)]
/-- The result of the second call. -/
theorem W3_c (c : Dev nD) : W3 m c main_call0_v3 = outC1 m c := by
  simp only [W3, Function.update_self]

/-- An argument is never written. -/
theorem W4_arg0 (c : Dev nD) : W4 m c main_arg0 = m ((c : Thread nD τ).loc main_arg0) :=
  (StableHlo.after_of_writes_sub hostOps2 _ hostOps2_writes (by decide)).trans <| (W3_of m c main_arg0 (by decide)).trans <|
    (W2_of m c main_arg0 (by decide) (by decide)).trans <| (V1_of m c main_arg0 (by decide)).trans rfl
/-- The second argument is unchanged at the end. -/
theorem W4_arg1 (c : Dev nD) : W4 m c main_arg1 = m ((c : Thread nD τ).loc main_arg1) :=
  (StableHlo.after_of_writes_sub hostOps2 _ hostOps2_writes (by decide)).trans <| (W3_of m c main_arg1 (by decide)).trans <|
    (W2_of m c main_arg1 (by decide) (by decide)).trans <| (V1_of m c main_arg1 (by decide)).trans rfl

/-! ## The calls as segments -/

/-- No core owes another anything. -/
abbrev L : GSem nD τ sig → Finset Unit := fun _ => ∅
/-- One level for every semaphore. -/
abbrev lv : GSem nD τ sig → Unit → ℕ := fun _ _ => 0
/-- What rides beside the buffers: that the core owes nothing. -/
abbrev E (c : Dev nD) : sProp 𝕄 := iprop(∃ W, owes (c : Thread nD τ) (0 : CellTallies nD τ sig Unit) W)

/-- The two calls' proof data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (W2 m) c

set_option backward.isDefEq.respectTransparency.types false in
/-- The first call, from the buffers after the casts to the buffers after it. -/
def R0 : RegionSeg (pcfgs (F := F)) adm (pdats m) () defs₀ Variants.none L lv 0 where
  win := launch₀0.win
  block_pos := launch₀0.block_pos
  stage_whole := launch₀0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (W2 m c) ∗ E c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held]
    have hsplit := Pipeline.arrays_of_unscopedBufs_shared (p := 0) (pcfgs (F := F)) adm (pdats m) launch₀0.win sharedIn0 arr_whole0 c
      (fun _ _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = iprop(scr (V1 m) c 0 ∗ others c) from rfl,
      show scr (V1 m) c 0 = iprop(∃ d, owns (c : Thread nD τ) (Memref.whole cc0_scratch0) fullShare d) from if_pos rfl]
    rw [show (Pipeline.scopedRest (Pipeline.pin (pcfgs (F := F)) adm 0).spec c : sProp 𝕄) = _ from scopedRest0_eq c]
    unfold others
    iintro ⟨-, -, Hr⟩
    icases Hr with ⟨⟨%f, HS⟩, Ho⟩
    isplitl [HS]
    · iexists f; rw [owns_whole_eq]; iexists f; isplitr; · ipureintro; rfl
      iexact HS
    iexact Ho
  hout c := by
    rw [Pipeline.ownSems0_none, show (pdats m 0 c).Φ (Fin.last _) = iprop(scr (V1 m) c (Fin.last _) ∗ others c) from rfl,
      show scr (V1 m) c (Fin.last _) = owns (c : Thread nD τ) (Memref.whole cc0_scratch0) fullShare (sqAll (V1 m) c) from if_neg (by decide),
      owns_whole_eq, show (Pipeline.scopedRest (Pipeline.pin (pcfgs (F := F)) adm 0).spec c : sProp 𝕄) = _ from scopedRest0_eq c]
    unfold others
    iintro ⟨⟨%f, -, HS⟩, Ho⟩
    isplitr; · iempintro
    isplitr; · iempintro
    isplitl [HS]; · iexists f; iexact HS
    iexact Ho
  hexit c := by
    rw [← Pipeline.unscopedBufs_held]
    have hjoin := Pipeline.unscopedBufs_of_arrays_shared (p := 0) (pcfgs (F := F)) adm (Ix := Unit) (Name := ℕ) (U := UR sig nD τ) (Lvl := ℕ) launch₀0.win sharedIn0 arr_whole0 c
      (pdats m) (fun _ _ => rfl) (fun b => V1 m c b) (fun b => W2 m c b) ((pdats m 0 c).arrAt · cfg0.N)
      (fun w => by
        fin_cases w
        · exact ((pdats m 0 c).arrAt_in 0 rfl _).trans (W2_of m c main_call0_v0 (by decide) (by decide)).symm
        · exact ((pdats m 0 c).arrAt_in 1 rfl _).trans (W2_of m c main_call0_v1 (by decide) (by decide)).symm
        · exact ((pdats m 0 c).arrAt_in 2 rfl _).trans (W2_of m c main_call0_v0 (by decide) (by decide)).symm
        · exact (W2_a m c).symm
        · exact (W2_b m c).symm)
      (fun b hb => W2_of m c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call, from the buffers after the first to the buffers after it. -/
def R1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (W2 m) c).loose
  hwaits := Pipeline.hwaits_of_owed_zero _ _ _ _ L lv 1 fun _ _ => rfl
  pre c := iprop(StableHlo.held (c : Thread nD τ) (Pipeline.ucRefs τ sig) (W2 m c) ∗ E c)
  post c := iprop(StableHlo.held (c : Thread nD τ) (Pipeline.ucRefs τ sig) (W3 m c) ∗ E c)
  X _ := BI.emp
  Y _ := BI.emp
  Z c := Pipeline.unscopedRest (Ix := Unit) (Name := ℕ) (U := UR sig nD τ) (Lvl := ℕ) spec1 c (fun b => W2 m c b)
  hentry c := by
    rw [Pipeline.ownSems0_none, ← Pipeline.unscopedBufs_held]
    have hsplit := Pipeline.arrays_of_unscopedBufs (p := 1) (pcfgs (F := F)) adm (pdats m) launch1.win launch1.arr_whole c
      ((pdats m 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [← Pipeline.unscopedBufs_held]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => W2 m c b) (fun b => W3 m c b) ((pdats m 1 c).arrAt · cfg1.N)
      (fun w => by
        fin_cases w
        · exact ((pdats m 1 c).arrAt_in 0 rfl _).trans (W3_of m c main_call0_v2_0 (by decide)).symm
        · exact ((pdats m 1 c).arrAt_in 1 rfl _).trans (W3_of m c main_call0_v2_1 (by decide)).symm
        · exact (W3_c m c).symm)
      (fun b hb => W3_of m c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The host's operations before the calls and after them. -/
def H0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
/-- The host's last segment. -/
def H3 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

/-- The program's items. -/
abbrev items : List (Seg (pcfgs (F := F)) adm (pdats m) () defs₀ Variants.none L lv) :=
  [.host (H0 m), .region (R0 m), .region (R1 m), .host (H3 m)]

/-! ## The run -/

set_option backward.isDefEq.respectTransparency.types false in
/-- From any memory with zero counters the program ends, the result is what the second call left, the arguments are
    unchanged and every counter is at zero again. -/
theorem run (ρ : Dev nD → PrngReg) :
    θ_run defs (onTc (τ := τ) (main (F := F))) ⟨m, fun _ => 0, ρ⟩ (fun r => (∀ c : Dev nD,
      r.2.mem ((c.tc : Thread nD τ).loc main_v0) = W4 m c main_v0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun _ _ => rfl) (fun _ => iprop(emp))
    (initOf (Pipeline.cells cfgs cellOf_inj) (Pipeline.launchToks cfgs cellOf_inj))
    (by
      have hu : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj) (Pipeline.launchToks (Pipeline.pin (pcfgs (F := F)) adm) cellOf_inj))) := BI.Entails.refl _
      iintro Hu
      imodintro
      isplitl [Hu]; · iapply hu; iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (W4 m c))
    (hch := fun c => ⟨.rfl, .rfl, .rfl, .rfl, .rfl⟩)
    (hinit := ?_) (QY := fun c s => s.mem ((c.tc : Thread nD τ).loc main_v0) = W4 m c main_v0
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (W4_arg0 m c),
        (h (Proc.devRef .tc main_arg1) (Finset.mem_filter.mpr ⟨StableHlo.devRef_mem_tcRefs main_arg1, by decide⟩)).trans (W4_arg1 m c)⟩
    · iexact HSI

end Cert.KernelIdeal.Top

end
-- ==== Proof.Top.Frames.lean ====
/-
  The frame claims of the two kernel programs. They are the same text: the idealized program rewrites nothing, so the
  frame is proved once, for any floats, and read for the words and for the extended reals.
-/
module

public import proofs.«01_k».proof.Defs
public import proofs.«01_k».proof.Proof.Gen.Kernel
public import proofs.«01_k».proof.Proof.Top.Launch

@[expose] public section

noncomputable section

namespace Cert.KernelIdeal.Top

open Idealize.ShloMosaic Idealize.SL.Sem

/-- The frame, at any floats. -/
def Quiet (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- It holds: the run without what it says of the result. -/
theorem quiet (F : FTy → Type) [FloatOps F] : Quiet F := fun m g _ =>
  (θ_run _ _ _).mono (fun _ h => ⟨fun c => (h.1 c).2, h.2⟩) (run m g)

/-- The printed kernel's frame is that frame at the words: the two programs have one text. -/
theorem kernel_frame_eq : Cert.quiescent_Kernel (hKernel := Cert.Kernel.Gen.facts) = Quiet Bits := by
  chain_rfl

/-- The printed kernel's frame. -/
theorem kernel_frame : Cert.quiescent_Kernel (hKernel := Cert.Kernel.Gen.facts) := kernel_frame_eq.mpr (quiet Bits)

/-- The idealized kernel's frame. -/
theorem ideal_frame : Cert.quiescent_KernelIdeal (hKernelIdeal := Cert.KernelIdeal.Gen.facts) := quiet Ideal

end Cert.KernelIdeal.Top

end
-- ==== Proof.Top.RefFrame.lean ====
/-
  The frame claim of the reference: it runs, leaves its arguments as they were, and declares no semaphore.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Top

open Idealize.ShloMosaic Idealize.SL.Sem

/-- The reference's frame: its run, read at the arguments. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

end Cert.ReferenceIdeal.Top

end
-- ==== Proof.Math.TwoLeast.lean ====
/-
  One lane of the fold: of the keys seen so far it keeps the two least, each with its value.
-/
module

public import Mathlib.Data.EReal.Basic

@[expose] public section

noncomputable section

namespace Cert.Knn

/-- What a lane keeps: the least key, its value, the next key, its value. -/
structure Two where
  /-- the least key -/
  m1 : EReal
  /-- its value -/
  p1 : EReal
  /-- the next key -/
  m2 : EReal
  /-- its value -/
  p2 : EReal

/-- One step of the fold: a further key `k` with its value `v`. -/
def Two.step (k v : EReal) (s : Two) : Two where
  m1 := if k < s.m1 then k else s.m1
  p1 := if k < s.m1 then v else s.p1
  m2 := if (if k < s.m1 then s.m1 else k) < s.m2 then (if k < s.m1 then s.m1 else k) else s.m2
  p2 := if (if k < s.m1 then s.m1 else k) < s.m2 then (if k < s.m1 then s.p1 else v) else s.p2

/-- `n` further steps, from key number `c` on. -/
def Two.steps (key val : ℕ → EReal) (n : ℕ) : ℕ → Two → Two :=
  Nat.rec (fun _ s => s) (fun _ ih c s => ih (c + 1) (s.step (key c) (val c))) n

/-- After the first `m` keys: the least of them is kept, and the least of the others if there are any. -/
def Two.Keeps (key val : ℕ → EReal) (big : EReal) (m : ℕ) (s : Two) : Prop :=
  ∃ i, i < m ∧ s.m1 = key i ∧ s.p1 = val i ∧ (∀ j, j < m → key i ≤ key j) ∧
    ((m = 1 ∧ s.m2 = big) ∨ ∃ i', i' < m ∧ i' ≠ i ∧ s.m2 = key i' ∧ s.p2 = val i' ∧ ∀ j, j < m → j ≠ i → key i' ≤ key j)

/-- A step keeps the two least of one key more. -/
theorem Two.Keeps.step {key val : ℕ → EReal} {big : EReal} {m : ℕ} {s : Two} (h : s.Keeps key val big m) (hb : ∀ j, j ≤ m → key j < big) :
    (s.step (key m) (val m)).Keeps key val big (m + 1) := by
  obtain ⟨i, hi, e1, q1, hmin, h2⟩ := h
  by_cases hlt : key m < key i
  · have hall : ∀ j, j < m + 1 → key m ≤ key j := fun j hj => by
      rcases Nat.lt_succ_iff_lt_or_eq.1 hj with h | h
      · exact hlt.le.trans (hmin j h)
      · rw [h]
    by_cases hd : key i < s.m2
    · exact ⟨m, Nat.lt_succ_self m, by simp [Two.step, e1, hlt], by simp [Two.step, e1, hlt], hall,
        Or.inr ⟨i, by omega, by omega, by simp [Two.step, e1, hlt, hd], by simp [Two.step, e1, hlt, hd, q1], fun j hj hjm => hmin j (by omega)⟩⟩
    · rcases h2 with ⟨_, e2⟩ | ⟨i', hi', hne, e2, q2, hmin'⟩
      · exact absurd (e2 ▸ hb i hi.le) hd
      · refine ⟨m, Nat.lt_succ_self m, by simp [Two.step, e1, hlt], by simp [Two.step, e1, hlt], hall,
          Or.inr ⟨i', by omega, by omega, (by simp [Two.step, e1, hlt, hd]; exact e2), by simp [Two.step, e1, hlt, hd, q2], fun j hj hjm => ?_⟩⟩
        by_cases hji : j = i
        · rw [hji]; exact e2 ▸ not_lt.1 hd
        · exact hmin' j (by omega) hji
  · have hall : ∀ j, j < m + 1 → key i ≤ key j := fun j hj => by
      rcases Nat.lt_succ_iff_lt_or_eq.1 hj with h | h
      · exact hmin j h
      · rw [h]; exact not_lt.1 hlt
    by_cases hd : key m < s.m2
    · refine ⟨i, by omega, by simp [Two.step, e1, hlt], by simp [Two.step, e1, hlt, q1], hall,
        Or.inr ⟨m, by omega, by omega, by simp [Two.step, e1, hlt, hd], by simp [Two.step, e1, hlt, hd], fun j hj hji => ?_⟩⟩
      rcases Nat.lt_succ_iff_lt_or_eq.1 hj with h | h
      · rcases h2 with ⟨h1, _⟩ | ⟨i', _, _, e2, _, hmin'⟩
        · omega
        · exact (e2 ▸ hd).le.trans (hmin' j h hji)
      · rw [h]
    · rcases h2 with ⟨_, e2⟩ | ⟨i', hi', hne, e2, q2, hmin'⟩
      · exact absurd (e2 ▸ hb m le_rfl) hd
      · refine ⟨i, by omega, by simp [Two.step, e1, hlt], by simp [Two.step, e1, hlt, q1], hall,
          Or.inr ⟨i', by omega, hne, (by simp [Two.step, e1, hlt, hd]; exact e2), by simp [Two.step, e1, hlt, hd, q2], fun j hj hji => ?_⟩⟩
        rcases Nat.lt_succ_iff_lt_or_eq.1 hj with h | h
        · exact hmin' j h hji
        · rw [h]; exact e2 ▸ not_lt.1 hd

/-- `n` steps keep the two least of `n` keys more. -/
theorem Two.Keeps.steps {key val : ℕ → EReal} {big : EReal} (n : ℕ) : ∀ {m : ℕ} {s : Two}, s.Keeps key val big m →
    (∀ j, j < m + n → key j < big) → (Two.steps key val n m s).Keeps key val big (m + n) := by
  induction n with
  | zero => intro m s h _; exact h
  | succ n ih =>
    intro m s h hb
    have := ih (h.step fun j hj => hb j (by omega)) (fun j hj => hb j (by omega))
    rw [Nat.add_right_comm] at this
    exact this

/-- The fold over `n + 2` keys from the first one on keeps the two least of all. -/
theorem Two.steps_spec (key val : ℕ → EReal) (big : EReal) (n : ℕ) (hb : ∀ j, j < n + 2 → key j < big) :
    ∃ i i', i < n + 2 ∧ i' < n + 2 ∧ i' ≠ i
      ∧ (Two.steps key val (n + 1) 1 ⟨key 0, val 0, big, 0⟩).m1 = key i ∧ (Two.steps key val (n + 1) 1 ⟨key 0, val 0, big, 0⟩).p1 = val i
      ∧ (Two.steps key val (n + 1) 1 ⟨key 0, val 0, big, 0⟩).m2 = key i' ∧ (Two.steps key val (n + 1) 1 ⟨key 0, val 0, big, 0⟩).p2 = val i'
      ∧ (∀ j, j < n + 2 → key i ≤ key j) ∧ ∀ j, j < n + 2 → j ≠ i → key i' ≤ key j := by
  have h0 : (⟨key 0, val 0, big, 0⟩ : Two).Keeps key val big 1 :=
    ⟨0, Nat.one_pos, rfl, rfl, fun j hj => by rw [Nat.lt_one_iff.1 hj], Or.inl ⟨rfl, rfl⟩⟩
  obtain ⟨i, hi, e1, q1, hmin, h2⟩ := h0.steps (n + 1) (fun j hj => hb j (by omega))
  rcases h2 with ⟨h, _⟩ | ⟨i', hi', hne, e2, q2, hmin'⟩
  · omega
  · exact ⟨i, i', by omega, by omega, hne, e1, q1, e2, q2, fun j hj => hmin j (by omega), fun j hj => hmin' j (by omega)⟩

end Cert.Knn
-- ==== Proof.Math.Candidates.lean ====
/-
  A row's candidates: of each class of columns modulo 128, the two of least key.  If no class holds more than two of the
  columns below all others, every one of those is a candidate.
-/
module

public import proofs.«01_k».proof.Proof.Math.TwoLeast
public import Mathlib.Data.Fintype.Card
public import Mathlib.Data.Finset.Card

@[expose] public section

noncomputable section

namespace Cert.Knn

/-- Column number `c` of class `l`. -/
def col (c : ℕ) (l : Fin 128) : Fin 4096 := ⟨128 * (c % 32) + l.val, by have := l.isLt; omega⟩

/-- The class's first candidate's position. -/
def lo (l : Fin 128) : Fin 256 := ⟨l.val, by have := l.isLt; omega⟩

/-- The class's second candidate's position. -/
def hi (l : Fin 128) : Fin 256 := ⟨128 + l.val, by have := l.isLt; omega⟩

/-- What the fold over class `l` keeps. -/
def lane (key val : Fin 4096 → EReal) (big : EReal) (l : Fin 128) : Two :=
  Two.steps (fun c => key (col c l)) (fun c => val (col c l)) 31 1 ⟨key (col 0 l), val (col 0 l), big, 0⟩

/-- Every position is a first or a second candidate's. -/
theorem lo_or_hi (p : Fin 256) : (∃ l, p = lo l) ∨ ∃ l, p = hi l := by
  by_cases h : p.val < 128
  · exact Or.inl ⟨⟨p.val, h⟩, rfl⟩
  · exact Or.inr ⟨⟨p.val - 128, by have := p.isLt; omega⟩, Fin.ext (by show p.val = 128 + (p.val - 128); omega)⟩

/-- Equal columns have equal numbers and classes. -/
theorem col_inj {c c' : ℕ} (hc : c < 32) (hc' : c' < 32) {l l' : Fin 128} (h : col c l = col c' l') : c = c' ∧ l = l' := by
  have := congrArg Fin.val h
  simp only [col] at this
  have := l.isLt; have := l'.isLt
  exact ⟨by omega, Fin.ext (by omega)⟩

/-- Every column is one of its class. -/
theorem exists_col (j : Fin 4096) : ∃ c l, c < 32 ∧ col c l = j :=
  ⟨j.val / 128, ⟨j.val % 128, Nat.mod_lt _ (by decide)⟩, by have := j.isLt; omega, Fin.ext (by simp only [col]; have := j.isLt; omega)⟩

/-- The candidates are different columns with their keys and values, and all columns of `S` are among them. -/
theorem exists_cand (key val : Fin 4096 → EReal) (big : EReal) (hb : ∀ j, key j < big) (S : Finset (Fin 4096))
    (hsep : ∀ p ∈ S, ∀ q, q ∉ S → key p < key q)
    (hlane : ∀ l, (Finset.univ.filter fun c : Fin 32 => col c.val l ∈ S).card ≤ 2) :
    ∃ cand : Fin 256 → Fin 4096, Function.Injective cand ∧ (∀ j ∈ S, ∃ p, cand p = j)
      ∧ ∀ l, (lane key val big l).m1 = key (cand (lo l)) ∧ (lane key val big l).p1 = val (cand (lo l))
        ∧ (lane key val big l).m2 = key (cand (hi l)) ∧ (lane key val big l).p2 = val (cand (hi l)) := by
  have hex := fun l : Fin 128 => Two.steps_spec (fun c => key (col c l)) (fun c => val (col c l)) big 30 (fun j _ => hb _)
  choose i i' hil hil' hne e1 q1 e2 q2 hmin hmin' using hex
  let cand : Fin 256 → Fin 4096 := fun p =>
    if h : p.val < 128 then col (i ⟨p.val, h⟩) ⟨p.val, h⟩
    else col (i' ⟨p.val - 128, by have := p.isLt; omega⟩) ⟨p.val - 128, by have := p.isLt; omega⟩
  have clo : ∀ l, cand (lo l) = col (i l) l := fun l => dif_pos l.isLt
  have chi : ∀ l, cand (hi l) = col (i' l) l := fun l => by
    have hl : (⟨(hi l).val - 128, by have := (hi l).isLt; omega⟩ : Fin 128) = l := Fin.ext (by show 128 + l.val - 128 = l.val; omega)
    refine (dif_neg (by show ¬ 128 + l.val < 128; omega)).trans ?_
    rw [hl]
  refine ⟨cand, ?_, ?_, fun l => ⟨?_, ?_, ?_, ?_⟩⟩
  · intro p p' h
    rcases lo_or_hi p with ⟨l, rfl⟩ | ⟨l, rfl⟩ <;> rcases lo_or_hi p' with ⟨l', rfl⟩ | ⟨l', rfl⟩
    · rw [clo, clo] at h; rw [(col_inj (hil l) (hil l') h).2]
    · rw [clo, chi] at h
      obtain ⟨h1, rfl⟩ := col_inj (hil l) (hil' l') h
      exact absurd h1.symm (hne l)
    · rw [chi, clo] at h
      obtain ⟨h1, rfl⟩ := col_inj (hil' l) (hil l') h
      exact absurd h1 (hne l)
    · rw [chi, chi] at h; rw [(col_inj (hil' l) (hil' l') h).2]
  · intro j hj
    obtain ⟨c, l, hc, rfl⟩ := exists_col j
    by_cases h1 : c = i l
    · exact ⟨lo l, by rw [clo, h1]⟩
    by_cases h2 : c = i' l
    · exact ⟨hi l, by rw [chi, h2]⟩
    have m1 : col (i l) l ∈ S := by
      by_contra hn
      exact absurd (hsep _ hj _ hn) (not_lt.2 (hmin l c hc))
    have m2 : col (i' l) l ∈ S := by
      by_contra hn
      exact absurd (hsep _ hj _ hn) (not_lt.2 (hmin' l c hc h1))
    have hsub : ({⟨c, hc⟩, ⟨i l, hil l⟩, ⟨i' l, hil' l⟩} : Finset (Fin 32)) ⊆ Finset.univ.filter fun c : Fin 32 => col c.val l ∈ S := by
      intro x hx
      simp only [Finset.mem_insert, Finset.mem_singleton] at hx
      rcases hx with rfl | rfl | rfl <;> simp [*]
    have hcard := (Finset.card_le_card hsub).trans (hlane l)
    have h3 : ({⟨c, hc⟩, ⟨i l, hil l⟩, ⟨i' l, hil' l⟩} : Finset (Fin 32)).card = 3 :=
      Finset.card_eq_three.2 ⟨_, _, _, fun e => h1 (congrArg Fin.val e), fun e => h2 (congrArg Fin.val e),
        fun e => hne l (congrArg Fin.val e).symm, rfl⟩
    omega
  · rw [clo]; exact e1 l
  · rw [clo]; exact q1 l
  · rw [chi]; exact e2 l
  · rw [chi]; exact q2 l

end Cert.Knn
-- ==== Proof.Top.ReadFold.lean ====
/-
  What a block's fold over the columns leaves, read at a row and a lane, at exact values.
-/
module

public import proofs.«01_k».proof.Proof.Top.Run
public import proofs.«01_k».proof.Proof.Math.Candidates
public import Idealize.ShloMosaic.Lib.Pointwise.Tactic
public import Idealize.ShloMosaic.Lib.Pipeline.Value

@[expose] public section

noncomputable section

namespace Cert.KernelIdeal.Top

open Idealize.ShloMosaic
open Cert.Knn
open Facts Shapes1.Facts₀

variable [Facts]

/-- Row `r` of block `b`, within the window. -/
def rowOf (b : ℕ) (r : Fin 16) : Fin 512 := ⟨16 * (b % 32) + r.val, by have := r.isLt; omega⟩

/-- A row's keys (or values): the column's norm plus the product's entry. -/
def rowKey (sq : FVec Ideal S1x4096 .f32) (p : FVec Ideal S512x4096 .f32) (b : ℕ) (r : Fin 16) (j : Fin 4096) : EReal :=
  sq (ix2 0 j) + p (ix2 (rowOf b r) j)

/-- A selection by a less-than comparison, read at an element. -/
theorem select_olt_apply {s : Shape} {φ : FTy} {α : Type} (a b : FVec Ideal s φ) (x y : s.Idx → α) (i : s.Idx) :
    select (cmpf .olt a b) x y i = if a i < b i then x i else y i := by
  show (if BitVec.ofBool (decide (a i < b i)) = 1#1 then x i else y i) = _
  by_cases h : a i < b i
  · rw [decide_eq_true h, if_pos h]; rfl
  · rw [decide_eq_false h, if_neg h]; rfl

/-- A chunk read at a row and a lane. -/
theorem chunk_apply (sq : FVec Ideal S1x4096 .f32) (p : FVec Ideal S512x4096 .f32) (b c : ℕ) (r : Fin 16) (l : Fin 128) :
    chunk (F := Ideal) sq p b c (ix2 r l) = rowKey sq p b r (col c l) := by
  unfold chunk rowKey
  pointwise
  rfl

/-- The fold read at a row and a lane, from chunk `c` on. -/
theorem fold2_apply (sq : FVec Ideal S1x4096 .f32) (p q : FVec Ideal S512x4096 .f32) (b : ℕ) (r : Fin 16) (l : Fin 128) (n : ℕ) :
    ∀ (c : ℕ) (m1 p1 m2 p2 : FVec Ideal S16x128 .bf16) (s : Two), m1 (ix2 r l) = s.m1 → p1 (ix2 r l) = s.p1 → m2 (ix2 r l) = s.m2 → p2 (ix2 r l) = s.p2 →
      (fold2 sq p q b (fun m1 p1 m2 p2 => (m1, p1, m2, p2)) n c m1 p1 m2 p2).1 (ix2 r l)
        = (Two.steps (fun c => rowKey sq p b r (col c l)) (fun c => rowKey sq q b r (col c l)) n c s).m1
      ∧ (fold2 sq p q b (fun m1 p1 m2 p2 => (m1, p1, m2, p2)) n c m1 p1 m2 p2).2.1 (ix2 r l)
        = (Two.steps (fun c => rowKey sq p b r (col c l)) (fun c => rowKey sq q b r (col c l)) n c s).p1
      ∧ (fold2 sq p q b (fun m1 p1 m2 p2 => (m1, p1, m2, p2)) n c m1 p1 m2 p2).2.2.1 (ix2 r l)
        = (Two.steps (fun c => rowKey sq p b r (col c l)) (fun c => rowKey sq q b r (col c l)) n c s).m2
      ∧ (fold2 sq p q b (fun m1 p1 m2 p2 => (m1, p1, m2, p2)) n c m1 p1 m2 p2).2.2.2 (ix2 r l)
        = (Two.steps (fun c => rowKey sq p b r (col c l)) (fun c => rowKey sq q b r (col c l)) n c s).p2 := by
  induction n with
  | zero => intro c m1 p1 m2 p2 s h1 h2 h3 h4; exact ⟨h1, h2, h3, h4⟩
  | succ n ih =>
    intro c m1 p1 m2 p2 s h1 h2 h3 h4
    exact ih (c + 1) _ _ _ _ (s.step (rowKey sq p b r (col c l)) (rowKey sq q b r (col c l)))
      (by simp only [select_olt_apply, chunk_apply, Two.step, h1])
      (by simp only [select_olt_apply, chunk_apply, Two.step, h1, h2])
      (by simp only [select_olt_apply, chunk_apply, Two.step, h1, h3])
      (by simp only [select_olt_apply, chunk_apply, Two.step, h1, h2, h3, h4])

/-- What stands for a second key when there is none yet. -/
def bigKey : EReal := Ideal.ofBits .bf16 0x7F62#16

/-- A block's two least of all chunks, read at a row and a lane. -/
theorem top2_apply (sq : FVec Ideal S1x4096 .f32) (p q : FVec Ideal S512x4096 .f32) (b : ℕ) (r : Fin 16) (l : Fin 128) :
    (top2 sq p q b).1 (ix2 r l) = (lane (rowKey sq p b r) (rowKey sq q b r) bigKey l).m1
      ∧ (top2 sq p q b).2.1 (ix2 r l) = (lane (rowKey sq p b r) (rowKey sq q b r) bigKey l).p1
      ∧ (top2 sq p q b).2.2.1 (ix2 r l) = (lane (rowKey sq p b r) (rowKey sq q b r) bigKey l).m2
      ∧ (top2 sq p q b).2.2.2 (ix2 r l) = (lane (rowKey sq p b r) (rowKey sq q b r) bigKey l).p2 :=
  fold2_apply sq p q b r l 31 1 _ _ _ _ ⟨rowKey sq p b r (col 0 l), rowKey sq q b r (col 0 l), bigKey, 0⟩
    (chunk_apply sq p b 0 r l) (chunk_apply sq q b 0 r l) rfl Ideal.ofBits_zero_bf16

/-- The two halves side by side, read in the first half. -/
theorem cat2_lo (x y : FVec Ideal S16x128 .bf16) (r : Fin 16) (l : Fin 128) : cat2 x y (ix2 r (lo l)) = x (ix2 r l) :=
  concatenate_pair_apply_left (t := S16x256) 1 x y concatenates_S16x128_S16x128_S16x256_d1 (ix2 r (lo l)) rfl (ix2 r l)
    (Fin.forall_fin_two.2 ⟨rfl, rfl⟩)

/-- The two halves side by side, read in the second half. -/
theorem cat2_hi (x y : FVec Ideal S16x128 .bf16) (r : Fin 16) (l : Fin 128) : cat2 x y (ix2 r (hi l)) = y (ix2 r l) :=
  concatenate_pair_apply_right (t := S16x256) 1 x y concatenates_S16x128_S16x128_S16x256_d1 (ix2 r (hi l)) rfl rfl (ix2 r l)
    (Fin.forall_fin_two.2 ⟨fun _ => rfl, fun h => absurd rfl h⟩) (Nat.add_comm _ _)

/-- A row's candidates are different columns with their keys and values, and hold every column of `S`: the columns that lie
    below all others, if no class of columns has more than two of them. -/
theorem exists_candidates (sq : FVec Ideal S1x4096 .f32) (p q : FVec Ideal S512x4096 .f32) (b : ℕ) (r : Fin 16)
    (hb : ∀ j, rowKey sq p b r j < bigKey) (S : Finset (Fin 4096))
    (hsep : ∀ i ∈ S, ∀ j, j ∉ S → rowKey sq p b r i < rowKey sq p b r j)
    (hlane : ∀ l, (Finset.univ.filter fun c : Fin 32 => col c.val l ∈ S).card ≤ 2) :
    ∃ cand : Fin 256 → Fin 4096, Function.Injective cand ∧ (∀ j ∈ S, ∃ i, cand i = j)
      ∧ ∀ i, candK sq p q b (ix2 r i) = rowKey sq p b r (cand i) ∧ candV sq p q b (ix2 r i) = rowKey sq q b r (cand i) := by
  obtain ⟨cand, hinj, hS, hc⟩ := exists_cand (rowKey sq p b r) (rowKey sq q b r) bigKey hb S hsep hlane
  refine ⟨cand, hinj, hS, fun i => ?_⟩
  rcases lo_or_hi i with ⟨l, rfl⟩ | ⟨l, rfl⟩
  · exact ⟨(cat2_lo _ _ r l).trans ((top2_apply sq p q b r l).1.trans (hc l).1),
      (cat2_lo _ _ r l).trans ((top2_apply sq p q b r l).2.1.trans (hc l).2.1)⟩
  · exact ⟨(cat2_hi _ _ r l).trans ((top2_apply sq p q b r l).2.2.1.trans (hc l).2.2.1),
      (cat2_hi _ _ r l).trans ((top2_apply sq p q b r l).2.2.2.trans (hc l).2.2.2)⟩

end Cert.KernelIdeal.Top
-- ==== Proof.Math.Extract.lean ====
/-
  Taking the least key again and again lists the keys that lie below all others.
-/
module

public import Mathlib.Data.EReal.Basic
public import Mathlib.Algebra.BigOperators.Fin
public import Mathlib.Data.Fintype.Card

@[expose] public section

noncomputable section

open scoped BigOperators

namespace Cert.Knn

/-- Round by round a position of a least key is taken and its key replaced by `big`. -/
structure Rounds {n : ℕ} (big : EReal) (K : ℕ → Fin n → EReal) (P : ℕ → Fin n) : Prop where
  /-- the position taken has a least key -/
  least : ∀ k q, K k (P k) ≤ K k q
  /-- its key is replaced -/
  next : ∀ k q, K (k + 1) q = if q = P k then big else K k q

/-- While fewer rounds than `C` has members are over, each took another member of `C`, at its own key. -/
theorem Rounds.taken {n : ℕ} {big : EReal} {K : ℕ → Fin n → EReal} {P : ℕ → Fin n} (h : Rounds big K P)
    (C : Finset (Fin n)) (hsep : ∀ p ∈ C, ∀ q, q ∉ C → K 0 p < K 0 q) (hbig : ∀ p ∈ C, K 0 p < big) (k : ℕ) :
    k ≤ C.card → (∀ i, i < k → P i ∈ C ∧ K i (P i) = K 0 (P i)) ∧ (∀ i, i < k → ∀ j, j < k → P i = P j → i = j)
      ∧ ∀ q, K k q = if (∃ i, i < k ∧ P i = q) then big else K 0 q := by
  induction k with
  | zero => intro _; refine ⟨fun i hi => absurd hi (Nat.not_lt_zero i), fun i hi => absurd hi (Nat.not_lt_zero i), fun q => ?_⟩; simp
  | succ k ih =>
    intro hk
    obtain ⟨hC, hinj, hK⟩ := ih (by omega)
    have hex : ∃ p ∈ C, ∀ i, i < k → P i ≠ p := by
      by_contra hno
      push Not at hno
      have hsub : C ⊆ (Finset.range k).image P := fun p hp => by
        obtain ⟨i, hi, e⟩ := hno p hp
        exact Finset.mem_image.2 ⟨i, Finset.mem_range.2 hi, e⟩
      have := (Finset.card_le_card hsub).trans Finset.card_image_le
      rw [Finset.card_range] at this
      omega
    obtain ⟨p, hp, hpn⟩ := hex
    have hKp : K k p = K 0 p := by
      rw [hK p, if_neg]; rintro ⟨i, hi, e⟩; exact hpn i hi e
    have hlt : K k (P k) < big := ((h.least k p).trans_eq hKp).trans_lt (hbig p hp)
    have hnew : ¬ ∃ i, i < k ∧ P i = P k := fun he => by
      rw [hK (P k), if_pos he] at hlt; exact lt_irrefl _ hlt
    have hself : K k (P k) = K 0 (P k) := by rw [hK (P k), if_neg hnew]
    have hmem : P k ∈ C := by
      by_contra hn
      exact absurd (hsep p hp _ hn) (not_lt.2 (hself ▸ hKp ▸ h.least k p))
    refine ⟨fun i hi => ?_, fun i hi j hj e => ?_, fun q => ?_⟩
    · rcases Nat.lt_succ_iff_lt_or_eq.1 hi with h' | h'
      · exact hC i h'
      · rw [h']; exact ⟨hmem, hself⟩
    · rcases Nat.lt_succ_iff_lt_or_eq.1 hi with hi' | hi' <;> rcases Nat.lt_succ_iff_lt_or_eq.1 hj with hj' | hj'
      · exact hinj i hi' j hj' e
      · exact absurd ⟨i, hi', hj' ▸ e⟩ hnew
      · exact absurd ⟨j, hj', hi' ▸ e.symm⟩ hnew
      · rw [hi', hj']
    · rw [h.next k q, hK q]
      by_cases hq : q = P k
      · rw [if_pos hq, if_pos ⟨k, Nat.lt_succ_self k, hq.symm⟩]
      · rw [if_neg hq]
        refine if_congr ⟨?_, ?_⟩ rfl rfl
        · rintro ⟨i, hi, e⟩; exact ⟨i, by omega, e⟩
        · rintro ⟨i, hi, e⟩
          refine ⟨i, ?_, e⟩
          rcases Nat.lt_succ_iff_lt_or_eq.1 hi with hi' | hi'
          · exact hi'
          · exact absurd (hi' ▸ e.symm) hq

/-- The places `J` are the `r` members of `S`, each once. -/
structure Lists {r n : ℕ} (S : Finset (Fin n)) (J : Fin r → Fin n) : Prop where
  /-- no member twice -/
  inj : Function.Injective J
  /-- members only -/
  mem : ∀ k, J k ∈ S
  /-- as many as `S` has -/
  card : S.card = r

/-- A sum over listed places is the sum over the set. -/
theorem Lists.sum_eq {r n : ℕ} {S : Finset (Fin n)} {J : Fin r → Fin n} (h : Lists S J) {M : Type*} [AddCommMonoid M] (f : Fin n → M) :
    ∑ k, f (J k) = ∑ j ∈ S, f j := by
  have himg : Finset.univ.image J = S := by
    refine Finset.eq_of_subset_of_card_le (fun p hp => ?_) ?_
    · obtain ⟨k, _, rfl⟩ := Finset.mem_image.1 hp; exact h.mem k
    · rw [Finset.card_image_of_injective _ h.inj, Finset.card_univ, Fintype.card_fin, h.card]
  rw [← himg, Finset.sum_image fun a _ b _ e => h.inj e]

/-- Two lists of one set give the same sums. -/
theorem Lists.sum_eq_sum {r n : ℕ} {S : Finset (Fin n)} {J J' : Fin r → Fin n} (h : Lists S J) (h' : Lists S J')
    {M : Type*} [AddCommMonoid M] (f : Fin n → M) : ∑ k, f (J k) = ∑ k, f (J' k) := by
  rw [h.sum_eq, h'.sum_eq]

/-- Candidates `cand`, among which all of `S` are, and rounds over their keys: as many rounds as `S` has members list `S`, at their own keys. -/
theorem Rounds.lists {n N r : ℕ} {big : EReal} {K : ℕ → Fin n → EReal} {P : ℕ → Fin n} (h : Rounds big K P)
    (cand : Fin n → Fin N) (hcand : Function.Injective cand) (key : Fin N → EReal) (hK : ∀ p, K 0 p = key (cand p))
    (S : Finset (Fin N)) (hS : ∀ j ∈ S, ∃ p, cand p = j) (hr : S.card = r)
    (hsep : ∀ p ∈ S, ∀ q, q ∉ S → key p < key q) (hbig : ∀ p ∈ S, key p < big) :
    Lists S (fun k : Fin r => cand (P k)) ∧ ∀ k : Fin r, K k (P k) = key (cand (P k)) := by
  classical
  have hC : ∀ p, p ∈ Finset.univ.filter (fun p => cand p ∈ S) ↔ cand p ∈ S := fun p => by simp
  have himg : (Finset.univ.filter (fun p => cand p ∈ S)).image cand = S := by
    ext j
    simp only [Finset.mem_image, hC]
    constructor
    · rintro ⟨p, hp, rfl⟩; exact hp
    · intro hj; obtain ⟨p, rfl⟩ := hS j hj; exact ⟨p, hj, rfl⟩
  have hcard : (Finset.univ.filter (fun p => cand p ∈ S)).card = r := by
    rw [← hr, ← himg, Finset.card_image_of_injective _ hcand, himg]
  obtain ⟨h1, h2, _⟩ := h.taken (Finset.univ.filter (fun p => cand p ∈ S))
    (fun p hp q hq => by rw [hK, hK]; exact hsep _ ((hC p).1 hp) _ fun hn => hq ((hC q).2 hn))
    (fun p hp => by rw [hK]; exact hbig _ ((hC p).1 hp)) r hcard.ge
  refine ⟨⟨fun a b e => Fin.ext (h2 a a.isLt b b.isLt (hcand e)), fun k => (hC _).1 (h1 k k.isLt).1, hr⟩, fun k => ?_⟩
  rw [(h1 k k.isLt).2, hK]

end Cert.Knn
-- ==== Proof.Top.ReadRounds.lean ====
/-
  The eight rounds of taking the least candidate, read at a row, at exact values.
-/
module

public import proofs.«01_k».proof.Proof.Top.ReadFold
public import proofs.«01_k».proof.Proof.Math.Extract
public import Idealize.ShloMosaic.PureOps.Ideal.Laws
public import Idealize.ShloMosaic.Lib.Pointwise.Reduce
public import Idealize.ShloMosaic.Lib.ValueLayoutCasts

@[expose] public section

noncomputable section

namespace Cert.KernelIdeal.Top

open Idealize.ShloMosaic
open Cert.Knn
open Facts Shapes1.Facts₀

variable [Facts]

/-- A column of sixteen, read at a row. -/
theorem colCast_apply {α : Type} (x : S16.Idx → α) (r : Fin 16) (u : Fin 1) :
    shapeCast S16x1 x shapeCasts_S16_S16x1 (ix2 r u) = x (ix1 r) :=
  (ValueIdx.shapeCast_a_a1_apply x shapeCasts_S16_S16x1 r u).trans (congrArg x (Idealize.ShloMosaic.eq_ix1 _))

/-- The greatest value is the one the least key's search begins with. -/
theorem ofBits_inf : Ideal.ofBits .f32 0x7F800000#32 = ⊤ := by
  simp [Ideal.ofBits, Ideal.ieee]

/-- Every row's least key is the least of its candidates' keys. -/
theorem minCol_apply (K : FVec Ideal S16x256 .f32) (r : Fin 16) (u : Fin 1) :
    minCol K (ix2 r u) = Finset.univ.inf fun q : Fin 256 => K (ix2 r q) := by
  refine (colCast_apply _ r u).trans ?_
  refine (multiReduction_minimumf_eq_fold K _ reduces_S16x256_S16 _ _ (ix1 r)).trans ?_
  refine (reduces_S16x256_S16.fold_fiber_r2_a1 (ix1 r) _ _ _).trans ?_
  show Finset.univ.fold min (Ideal.ofBits .f32 0x7F800000#32) _ = Finset.univ.fold min ⊤ _
  rw [ofBits_inf]
  rfl

/-- A row's least key is some candidate's. -/
theorem exists_inf (k : Fin 256 → EReal) : ∃ q, k q = Finset.univ.inf k := by
  obtain ⟨q, _, h⟩ := Finset.exists_mem_eq_inf Finset.univ ⟨0, Finset.mem_univ _⟩ k
  exact ⟨q, h.symm⟩

/-- A fold of the lesser of two words takes one of the folded words that is at most all of them, or stays where it began. -/
theorem fold_minsi {ι : Type*} [DecidableEq ι] (s : Finset ι) (f : ι → BitVec 32) (init : BitVec 32) :
    (s.fold IKind.minsi.op init f = init ∨ ∃ i ∈ s, s.fold IKind.minsi.op init f = f i)
      ∧ (s.fold IKind.minsi.op init f).toInt ≤ init.toInt ∧ ∀ i ∈ s, (s.fold IKind.minsi.op init f).toInt ≤ (f i).toInt := by
  induction s using Finset.induction_on with
  | empty => exact ⟨Or.inl rfl, le_rfl, fun i hi => absurd hi (Finset.notMem_empty i)⟩
  | insert a s ha ih =>
    obtain ⟨h1, h2, h3⟩ := ih
    rw [Finset.fold_insert ha]
    have hop : ∀ x y : BitVec 32, IKind.minsi.op x y = if x.toInt < y.toInt then x else y := fun x y => by
      show (if x.slt y then x else y) = _
      simp only [BitVec.slt, decide_eq_true_eq]
    rw [hop]
    split_ifs with hlt
    · refine ⟨Or.inr ⟨a, Finset.mem_insert_self a s, rfl⟩, hlt.le.trans h2, fun i hi => ?_⟩
      rcases Finset.mem_insert.1 hi with rfl | hi
      · exact le_rfl
      · exact hlt.le.trans (h3 i hi)
    · refine ⟨?_, h2, fun i hi => ?_⟩
      · rcases h1 with h1 | ⟨i, hi, h1⟩
        · exact Or.inl h1
        · exact Or.inr ⟨i, Finset.mem_insert_of_mem hi, h1⟩
      · rcases Finset.mem_insert.1 hi with rfl | hi
        · exact not_lt.1 hlt
        · exact h3 i hi

/-- The position of a row's first least key, as the word that the body finds: the least over this. -/
def posWord (K : FVec Ideal S16x256 .f32) (r : Fin 16) (q : Fin 256) : BitVec 32 :=
  if K (ix2 r q) = Finset.univ.inf (fun q : Fin 256 => K (ix2 r q)) then BitVec.ofNat 32 q.val else 256#32

/-- Words of positions are their numbers. -/
theorem ofNat_toInt (q : Fin 256) : (BitVec.ofNat 32 q.val).toInt = q.val := by
  have := q.isLt
  rw [BitVec.toInt_ofNat', Int.bmod_def]
  omega

/-- A selection by an equality, read at an element. -/
theorem select_oeq_apply {s : Shape} {φ : FTy} {α : Type} (a b : FVec Ideal s φ) (x y : s.Idx → α) (i : s.Idx) :
    select (cmpf .oeq a b) x y i = if a i = b i then x i else y i := by
  show (if BitVec.ofBool (decide (a i = b i)) = 1#1 then x i else y i) = _
  by_cases h : a i = b i
  · rw [decide_eq_true h, if_pos h]; rfl
  · rw [decide_eq_false h, if_neg h]; rfl

/-- One position of every row is marked, one at which the row's least key lies. -/
theorem exists_first (K : FVec Ideal S16x256 .f32) (r : Fin 16) :
    ∃ P : Fin 256, K (ix2 r P) = Finset.univ.inf (fun q : Fin 256 => K (ix2 r q)) ∧ ∀ q, first K (ix2 r q) = if q = P then 1#1 else 0#1 := by
  obtain ⟨q0, h0⟩ := exists_inf fun q => K (ix2 r q)
  have hw : ∀ q, posWord K r q = select (cmpf .oeq K (broadcastTo S16x256 (minCol K) broadcasts_S16x1_S16x256)) pos (broadcast S16x256 256#32) (ix2 r q) := fun q => by
    rw [select_oeq_apply]
    unfold posWord pos
    pointwise
    rw [minCol_apply]
  obtain ⟨h1, h2, h3⟩ := fold_minsi Finset.univ (posWord K r) 2147483647#32
  have hq0 : (Finset.univ.fold IKind.minsi.op 2147483647#32 (posWord K r)).toInt ≤ q0.val := by
    have := h3 q0 (Finset.mem_univ q0)
    rwa [posWord, if_pos h0, ofNat_toInt] at this
  have hlt := q0.isLt
  obtain ⟨P, hP, eP⟩ : ∃ P : Fin 256, K (ix2 r P) = Finset.univ.inf (fun q : Fin 256 => K (ix2 r q))
      ∧ Finset.univ.fold IKind.minsi.op 2147483647#32 (posWord K r) = BitVec.ofNat 32 P.val := by
    rcases h1 with h1 | ⟨P, _, h1⟩
    · rw [h1] at hq0
      have : (2147483647#32 : BitVec 32).toInt = 2147483647 := by decide
      omega
    · unfold posWord at h1
      split_ifs at h1 with hc
      · exact ⟨P, hc, h1⟩
      · unfold posWord at hq0
        rw [h1] at hq0
        have : (256#32 : BitVec 32).toInt = 256 := by decide
        omega
  refine ⟨P, hP, fun q => ?_⟩
  have hidx : shapeCast S16x1 (multiReductionI .minsi [1] S16
      (select (cmpf .oeq K (broadcastTo S16x256 (minCol K) broadcasts_S16x1_S16x256)) pos (broadcast S16x256 256#32))
      2147483647#32 reduces_S16x256_S16 rfl) shapeCasts_S16_S16x1 (ix2 r 0) = BitVec.ofNat 32 P.val := by
    refine (colCast_apply _ r 0).trans ?_
    refine (multiReductionI_eq_fold .minsi _ _ reduces_S16x256_S16 rfl (ix1 r)).trans ?_
    refine (reduces_S16x256_S16.fold_fiber_r2_a1 (ix1 r) _ _ _).trans ?_
    refine (Finset.fold_congr fun q _ => (hw q).symm).trans eP
  unfold first pos
  pointwise
  refine (congrArg (IntOp.cmpi .eq (BitVec.ofNat 32 q.val)) hidx).trans ?_
  by_cases hq : q = P
  · rw [if_pos hq, hq]
    show BitVec.ofBool (BitVec.ofNat 32 P.val == BitVec.ofNat 32 P.val) = 1#1
    rw [beq_self_eq_true]; rfl
  · rw [if_neg hq]
    have hne : ¬ BitVec.ofNat 32 q.val = BitVec.ofNat 32 P.val := fun e => hq (Fin.ext (by
      have := congrArg BitVec.toInt e
      rw [ofNat_toInt, ofNat_toInt] at this
      exact_mod_cast this))
    show BitVec.ofBool (BitVec.ofNat 32 q.val == BitVec.ofNat 32 P.val) = 0#1
    rw [beq_eq_false_iff_ne.2 hne]; rfl

/-- The value taken is the one at the marked position. -/
theorem valCol_apply (V K : FVec Ideal S16x256 .f32) (r : Fin 16) (u : Fin 1) (P : Fin 256) (h : ∀ q, first K (ix2 r q) = if q = P then 1#1 else 0#1) :
    valCol V K (ix2 r u) = V (ix2 r P) := by
  refine (colCast_apply _ r u).trans ?_
  refine (Ideal.reduceAdd_r2_a1 reduces_S16x256_S16 _ (ix1 r)).trans ?_
  refine (Finset.sum_congr rfl fun q _ => ?_).trans ((Finset.sum_ite_eq' Finset.univ P fun q => V (ix2 r q)).trans (if_pos (Finset.mem_univ P)))
  show (if first K (ix2 r q) = 1#1 then V (ix2 r q) else Ideal.ofBits .f32 0x00000000#32) = _
  rw [h q, Ideal.ofBits_zero_f32]
  by_cases hq : q = P
  · simp [hq]
  · simp [hq]

/-- The keys left: the marked one replaced. -/
theorem next_apply (K : FVec Ideal S16x256 .f32) (r : Fin 16) (q P : Fin 256) (h : ∀ q, first K (ix2 r q) = if q = P then 1#1 else 0#1) :
    next K (ix2 r q) = if q = P then Ideal.ofBits .f32 0x7F61B1E6#32 else K (ix2 r q) := by
  show (if first K (ix2 r q) = 1#1 then Ideal.ofBits .f32 0x7F61B1E6#32 else K (ix2 r q)) = _
  rw [h q]
  by_cases hq : q = P
  · simp [hq]
  · simp [hq]

/-- The keys after `k` rounds. -/
def after (K : FVec Ideal S16x256 .f32) (k : ℕ) : FVec Ideal S16x256 .f32 := next^[k] K

/-- Eight columns side by side, read at a row and a column. -/
theorem cat8_apply (f : Fin 8 → FVec Ideal S16x1 .f32) (r : Fin 16) (k : Fin 8) :
    cat8 (f 0) (f 1) (f 2) (f 3) (f 4) (f 5) (f 6) (f 7) (ix2 r k) = f k (ix2 r 0) :=
  concatenate_ofFn_unit_apply (t := S16x8) (s₁ := S16x1) 1 f concatenates_S16x1_S16x1_S16x1_S16x1_S16x1_S16x1_S16x1_S16x1_S16x8_d1 rfl rfl
    (ix2 r k) k rfl (ix2 r 0) (Fin.forall_fin_two.2 ⟨fun _ => rfl, fun h => absurd rfl h⟩)

/-- What the blocks store as key `k` is the least key after `k` rounds. -/
theorem keys8_apply (K : FVec Ideal S16x256 .f32) (r : Fin 16) (k : Fin 8) : keys8 K (ix2 r k) = minCol (after K k.val) (ix2 r 0) :=
  cat8_apply (fun k => minCol (after K k.val)) r k

/-- What the blocks store as value `k` is the value taken in round `k`. -/
theorem vals8_apply (V K : FVec Ideal S16x256 .f32) (r : Fin 16) (k : Fin 8) : vals8 V K (ix2 r k) = valCol V (after K k.val) (ix2 r 0) :=
  cat8_apply (fun k => valCol V (after K k.val)) r k

/-- The eight rounds: in each a position of a least key is taken, the block stores that key and that value. -/
theorem exists_rounds (V K : FVec Ideal S16x256 .f32) (r : Fin 16) :
    ∃ P : ℕ → Fin 256, Rounds (Ideal.ofBits .f32 0x7F61B1E6#32) (fun k q => after K k (ix2 r q)) P
      ∧ ∀ k : Fin 8, keys8 K (ix2 r k) = after K k.val (ix2 r (P k.val)) ∧ vals8 V K (ix2 r k) = V (ix2 r (P k.val)) := by
  choose P hP hf using fun k => exists_first (after K k) r
  refine ⟨P, ⟨fun k q => ?_, fun k q => ?_⟩, fun k => ⟨?_, ?_⟩⟩
  · rw [hP k]; exact Finset.inf_le (Finset.mem_univ q)
  · show next^[k + 1] K (ix2 r q) = _
    rw [Function.iterate_succ_apply']
    exact next_apply _ r q (P k) (hf k)
  · rw [keys8_apply, minCol_apply, hP]
  · rw [vals8_apply]; exact valCol_apply V _ r 0 (P k.val) (hf k.val)

end Cert.KernelIdeal.Top
-- ==== Proof.Top.ReadBlock.lean ====
/-
  What one window of the first call leaves, read at a row, at exact values: the eight rows nearest to it, each with the two
  squared distances.
-/
module

public import proofs.«01_k».proof.Proof.Top.ReadRounds
public import Idealize.ShloMosaic.Lib.MatmulPlain

@[expose] public section

noncomputable section

namespace Cert.KernelIdeal.Top

open Idealize.ShloMosaic
open Cert.Knn
open Facts Shapes1.Facts₀

variable [Facts]

/-- What replaces a key once it is taken. -/
def bigTaken : EReal := Ideal.ofBits .f32 0x7F61B1E6#32

/-- A row's key for row `j` of `v0`: row `j`'s norm less twice the product of the two rows. -/
def keyOf (xi : Fin 512 → EReal) (v0 : Vec Ideal S4096x512 .bf16) (j : Fin 4096) : EReal :=
  (∑ d : Fin 512, 1 * (v0 (ix2 j d) * v0 (ix2 j d))) + ∑ d : Fin 512, (Ideal.ofBits .bf16 0xC000#16 * xi d) * v0 (ix2 j d)

/-- The norms, read at a column. -/
theorem norms_apply (v0 : Vec Ideal S4096x512 .bf16) (u : Fin 1) (j : Fin 4096) :
    norms v0 (ix2 u j) = ∑ d : Fin 512, 1 * (v0 (ix2 j d) * v0 (ix2 j d)) := by
  unfold norms
  rw [shapeCast_self, shapeCast_self]
  refine (Ideal.matmul_transposedRhs_apply (M := 1) (K := 512) (N := 4096) none
    (broadcast S1x512 (Scalar.ofBits .bf16 0x3F80#16 : Ideal .bf16)) (mulf v0 v0) (constant S1x4096 .f32 0x00000000#32) u j).trans ?_
  show Ideal.ofBits .f32 0x00000000#32 + ∑ d : Fin 512, Ideal.ofBits .bf16 0x3F80#16 * (v0 (ValueIdx.ix2 j d) * v0 (ValueIdx.ix2 j d)) = _
  rw [Ideal.ofBits_zero_f32, zero_add, Ideal.ofBits_one_bf16]
  exact Finset.sum_congr rfl fun d _ => by rw [eq_ix2 (ValueIdx.ix2 j d)]

/-- The product, read at a row and a column. -/
theorem prod_apply (x : Vec Ideal S512x512 .bf16) (v0 : Vec Ideal S4096x512 .bf16) (i : Fin 512) (j : Fin 4096) :
    prod x v0 (ix2 i j) = ∑ d : Fin 512, (Ideal.ofBits .bf16 0xC000#16 * x (ix2 i d)) * v0 (ix2 j d) := by
  unfold prod
  rw [shapeCast_self, shapeCast_self]
  refine (congrArg _ (eq_ix2 (ValueIdx.ix2 i j)).symm).trans ?_
  refine (Ideal.matmul_transposedRhs_apply (M := 512) (K := 512) (N := 4096) none
    (mulf (broadcast S512x512 (Scalar.ofBits .bf16 0xC000#16 : Ideal .bf16)) x) v0 (constant S512x4096 .f32 0x00000000#32) i j).trans ?_
  show Ideal.ofBits .f32 0x00000000#32 + ∑ d : Fin 512, (Ideal.ofBits .bf16 0xC000#16 * x (ValueIdx.ix2 i d)) * v0 (ValueIdx.ix2 j d) = _
  rw [Ideal.ofBits_zero_f32, zero_add]
  exact Finset.sum_congr rfl fun d _ => by rw [eq_ix2 (ValueIdx.ix2 j d), eq_ix2 (ValueIdx.ix2 i d)]

/-- At the last column tile every row's norm is added to its eight columns. -/
theorem addNorm_apply (t : FVec Ideal S16x8 .f32) (x : Vec Ideal S16x512 .bf16) (r : Fin 16) (k : Fin 8) :
    addNorm 1#1 t x (ix2 r k) = t (ix2 r k) + ∑ d : Fin 512, x (ix2 r d) * x (ix2 r d) := by
  show t (ix2 r k) + broadcastTo S16x8 _ broadcasts_S16x1_S16x8 (ix2 r k) = _
  pointwise
  refine congrArg (t (ix2 r k) + ·) ((colCast_apply _ r 0).trans ?_)
  refine (Ideal.reduceAdd_r2_a1 reduces_S16x512_S16 _ (ix1 r)).trans ?_
  rw [shapeCast_self]
  rfl

/-- A row of the window within its block of sixteen. -/
def inRow (i : Fin 512) : Fin 16 := ⟨i.val % 16, Nat.mod_lt _ (by decide)⟩

/-- The row that a block's row is. -/
theorem rowOf_inRow (i : Fin 512) : rowOf (i.val / 16) (inRow i) = i :=
  Fin.ext (by show 16 * (i.val / 16 % 32) + i.val % 16 = i.val; have := i.isLt; omega)

/-- A block's rows, read at a row. -/
theorem rows_apply (x : Vec Ideal S512x512 .bf16) (b : ℕ) (r : Fin 16) (d : Fin 512) : rows x b (ix2 r d) = x (ix2 (rowOf b r) d) := by
  unfold rows
  refine congrArg x (funext fun a => Fin.ext ?_)
  match a with
  | ⟨0, _⟩ => show 16 * (b % 32) + 1 * r.val = 16 * (b % 32) + r.val; omega
  | ⟨1, _⟩ => show 0 + 1 * d.val = d.val; omega

/-- A window of the first call, read at row `i`: if the columns `S` are the eight whose keys lie below all others, and no class
    of columns modulo 128 has three of them, the row lists `S`; the first output has each one's key plus the row's norm, the
    second the same of the other argument's row. -/
theorem window_lists (x xd : Vec Ideal S512x512 .bf16) (v0 : Vec Ideal S4096x512 .bf16) (i : Fin 512) (S : Finset (Fin 4096))
    (hS : S.card = 8) (hsep : ∀ p ∈ S, ∀ q, q ∉ S → keyOf (fun d => x (ix2 i d)) v0 p < keyOf (fun d => x (ix2 i d)) v0 q)
    (hlane : ∀ l, (Finset.univ.filter fun c : Fin 32 => col c.val l ∈ S).card ≤ 2)
    (hb : ∀ j, keyOf (fun d => x (ix2 i d)) v0 j < bigKey) (hb' : ∀ j, keyOf (fun d => x (ix2 i d)) v0 j < bigTaken) :
    ∃ J : Fin 8 → Fin 4096, Lists S J ∧ ∀ k,
      winA x xd v0 (norms v0) 1#1 (ix2 i k) = keyOf (fun d => x (ix2 i d)) v0 (J k) + ∑ d : Fin 512, x (ix2 i d) * x (ix2 i d)
      ∧ winB x xd v0 (norms v0) 1#1 (ix2 i k) = keyOf (fun d => xd (ix2 i d)) v0 (J k) + ∑ d : Fin 512, xd (ix2 i d) * xd (ix2 i d) := by
  have hkey : ∀ (x : Vec Ideal S512x512 .bf16) j, rowKey (norms v0) (prod x v0) (i.val / 16) (inRow i) j = keyOf (fun d => x (ix2 i d)) v0 j := fun x j => by
    unfold rowKey keyOf
    rw [norms_apply, prod_apply, rowOf_inRow]
  obtain ⟨cand, hinj, hmem, hc⟩ := exists_candidates (norms v0) (prod x v0) (prod xd v0) (i.val / 16) (inRow i)
    (fun j => by rw [hkey]; exact hb j) S (fun p hp q hq => by rw [hkey, hkey]; exact hsep p hp q hq) hlane
  obtain ⟨P, hP, hk⟩ := exists_rounds (candV (norms v0) (prod x v0) (prod xd v0) (i.val / 16)) (candK (norms v0) (prod x v0) (prod xd v0) (i.val / 16)) (inRow i)
  obtain ⟨hl, he⟩ := hP.lists cand hinj (keyOf (fun d => x (ix2 i d)) v0) (fun p => (hc p).1.trans (hkey x _)) S hmem hS hsep (fun p _ => hb' p)
  have hinB : ∀ k : Fin 8, inBlock (ix2 i k) = ix2 (inRow i) k := fun k => (eq_ix2 _).trans rfl
  have hrow : ∀ x : Vec Ideal S512x512 .bf16, (∑ d : Fin 512, rows x (i.val / 16) (ix2 (inRow i) d) * rows x (i.val / 16) (ix2 (inRow i) d))
      = ∑ d : Fin 512, x (ix2 i d) * x (ix2 i d) := fun x => Finset.sum_congr rfl fun d _ => by rw [rows_apply, rowOf_inRow]
  refine ⟨_, hl, fun k => ⟨?_, ?_⟩⟩
  · show addNorm 1#1 _ _ (inBlock (ix2 i k)) = _
    rw [hinB, addNorm_apply]
    refine congrArg₂ (· + ·) ((hk k).1.trans (he k)) (hrow x)
  · show addNorm 1#1 _ _ (inBlock (ix2 i k)) = _
    rw [hinB, addNorm_apply]
    refine congrArg₂ (· + ·) ((hk k).2.trans ((hc _).2.trans (hkey xd _))) (hrow xd)

end Cert.KernelIdeal.Top
-- ==== Proof.Top.Arrays.lean ====
/-
  The arrays between the two calls at exact values, read at an index: which window and which row of it an array's element
  comes from, what the first call's windows read, and the number that the program returns.
-/
module

public import proofs.«01_k».proof.Proof.Top.Launch
public import proofs.«01_k».proof.Proof.Top.ReadBlock
public import Idealize.ShloMosaic.Lib.Pipeline.ValueKit.Geometry
public import Idealize.ShloMosaic.Lib.Claim

@[expose] public section

noncomputable section

namespace Cert.KernelIdeal.Top

open Cert.KernelIdeal.Gen
open Idealize.ShloMosaic Idealize.ShloMosaic.TcCoe Idealize.ShloMosaic.Tactic
open Idealize.SL Idealize.SL.RA

variable (m : (ℓ : Loc nD τ sig) → Buf (Elt Ideal) ℓ) (c : Dev nD)

/-- The first argument as a matrix. -/
abbrev argX : Vec Ideal S4096x512 .f32 := m ((c : Thread nD τ).loc main_arg0)
/-- The second argument as a matrix. -/
abbrev argXd : Vec Ideal S4096x512 .f32 := m ((c : Thread nD τ).loc main_arg1)

/-- The cast of the first argument is the argument. -/
theorem V1_v0 : (V1 m c main_call0_v0 : Vec Ideal S4096x512 .bf16) = argX m c := by
  unfold_abbrev_sides
  after_results
  rfl
/-- The cast of the second argument is the argument. -/
theorem V1_v1 : (V1 m c main_call0_v1 : Vec Ideal S4096x512 .bf16) = argXd m c := by
  unfold_abbrev_sides
  after_results
  rfl

/-- The window that covers row `i`. -/
def pt (i : Fin 4096) : Fin cfg0.N := ⟨i.val / 512, by rw [show cfg0.N = 8 from N_0]; have := i.isLt; omega⟩
/-- Row `i` within its window. -/
def inWin (i : Fin 4096) : Fin 512 := ⟨i.val % 512, Nat.mod_lt _ (by decide)⟩

/-- The block of the first operand at a point: the rows of that window. -/
theorem index0_0 : ∀ t : Fin cfg0.N, win0_0.index t = ![t.val, 0] := (by decide +kernel : ∀ t : Fin grid0.N, win0_0.index t = ![t.val, 0])
/-- The block of the second operand at a point. -/
theorem index0_1 : ∀ t : Fin cfg0.N, win0_1.index t = ![t.val, 0] := (by decide +kernel : ∀ t : Fin grid0.N, win0_1.index t = ![t.val, 0])
/-- The third operand is one block, whole. -/
theorem index0_2 : ∀ t : Fin cfg0.N, win0_2.index t = ![0, 0] := (by decide +kernel : ∀ t : Fin grid0.N, win0_2.index t = ![0, 0])
/-- The block of the first result at a point. -/
theorem index0_3 : ∀ t : Fin cfg0.N, win0_3.index t = ![t.val, 0] := (by decide +kernel : ∀ t : Fin grid0.N, win0_3.index t = ![t.val, 0])
/-- The block of the second result at a point. -/
theorem index0_4 : ∀ t : Fin cfg0.N, win0_4.index t = ![t.val, 0] := (by decide +kernel : ∀ t : Fin grid0.N, win0_4.index t = ![t.val, 0])

/-- The first window's block at the row's window holds the argument's row. -/
theorem iblk0_apply (i : Fin 4096) (d : Fin 512) : (iblk (V1 m) c 0 (pt i) (ix2 (inWin i) d) : EReal) = argX m c (ix2 i d) := by
  rw [← V1_v0]
  show V1 m c main_call0_v0 _ = V1 m c main_call0_v0 _
  refine congrArg (V1 m c main_call0_v0) (funext fun a => Fin.ext ?_)
  match a with
  | ⟨0, _⟩ =>
    refine (Pipeline.Window.rect_emb_val win0_0 (pt i) (ix2 (inWin i) d) 0).trans ?_
    rw [index0_0]
    show i.val / 512 * 512 + i.val % 512 = i.val
    omega
  | ⟨1, _⟩ =>
    refine (Pipeline.Window.rect_emb_val win0_0 (pt i) (ix2 (inWin i) d) 1).trans ?_
    rw [index0_0]
    show 0 * 512 + d.val = d.val
    omega

/-- The second window's block at the row's window holds the other argument's row. -/
theorem iblk1_apply (i : Fin 4096) (d : Fin 512) : (iblk (V1 m) c 1 (pt i) (ix2 (inWin i) d) : EReal) = argXd m c (ix2 i d) := by
  rw [← V1_v1]
  show V1 m c main_call0_v1 _ = V1 m c main_call0_v1 _
  refine congrArg (V1 m c main_call0_v1) (funext fun a => Fin.ext ?_)
  match a with
  | ⟨0, _⟩ =>
    refine (Pipeline.Window.rect_emb_val win0_1 (pt i) (ix2 (inWin i) d) 0).trans ?_
    rw [index0_1]
    show i.val / 512 * 512 + i.val % 512 = i.val
    omega
  | ⟨1, _⟩ =>
    refine (Pipeline.Window.rect_emb_val win0_1 (pt i) (ix2 (inWin i) d) 1).trans ?_
    rw [index0_1]
    show 0 * 512 + d.val = d.val
    omega

/-- The third window's block is the whole first argument, at every point. -/
theorem iblk2_eq (t : Fin cfg0.N) : (iblk (V1 m) c 2 t : Vec Ideal S4096x512 .bf16) = argX m c := by
  rw [← V1_v0]
  funext y
  show V1 m c main_call0_v0 _ = V1 m c main_call0_v0 _
  refine congrArg (V1 m c main_call0_v0) (funext fun a => Fin.ext ?_)
  refine Pipeline.Window.rect_emb_val_of_index_zero win0_2 t a ?_ y
  rw [index0_2]
  match a with
  | ⟨0, _⟩ => rfl
  | ⟨1, _⟩ => rfl

/-- Every point is in the last column tile: there is one. -/
theorem isLast_eq : ∀ t : Fin cfg0.N, isLast (grid0.coords t) = 1#1 := (by decide +kernel : ∀ t : Fin grid0.N, isLast (grid0.coords t) = 1#1)

/-- Different points write different blocks. -/
theorem index3_inj : ∀ t t' : Fin cfg0.N, win0_3.flush t = true → win0_3.flush t' = true → win0_3.index t = win0_3.index t' → t = t' := fun t t' _ _ h => by
  rw [index0_3, index0_3] at h
  exact Fin.ext (congrFun h 0)
/-- No two points leave the same block of the second result. -/
theorem index4_inj : ∀ t t' : Fin cfg0.N, win0_4.flush t = true → win0_4.flush t' = true → win0_4.index t = win0_4.index t' → t = t' := fun t t' _ _ h => by
  rw [index0_4, index0_4] at h
  exact Fin.ext (congrFun h 0)

/-- The first call's first array, read at an element: what the row's window leaves. -/
theorem outA0_apply (i : Fin 4096) (k : Fin 8) :
    outA0 m c (ix2 i k) = winA (iblk (V1 m) c 0 (pt i)) (iblk (V1 m) c 1 (pt i)) (argX m c) (norms (argX m c)) 1#1 (ix2 (inWin i) k) := by
  have h := (dat0 (V1 m) c).arrAt_emb_eq_flushed 3 (Pipeline.Window.hdisj_of_index_inj win0_3 index3_inj) (pt i) (flush0_3 (pt i)) (ix2 (inWin i) k)
  have hi : ((cfg0.win 3).blk (pt i)).view.emb (ix2 (inWin i) k) = ix2 i k := funext fun a => Fin.ext <| by
    match a with
    | ⟨0, _⟩ =>
      refine (Pipeline.Window.rect_emb_val win0_3 (pt i) (ix2 (inWin i) k) 0).trans ?_
      rw [index0_3]
      show i.val / 512 * 512 + i.val % 512 = i.val
      omega
    | ⟨1, _⟩ =>
      refine (Pipeline.Window.rect_emb_val win0_3 (pt i) (ix2 (inWin i) k) 1).trans ?_
      rw [index0_3]
      show 0 * 8 + k.val = k.val
      omega
  rw [hi] at h
  refine h.trans ?_
  show (dat0 (V1 m) c).after 3 (pt i) (ix2 (inWin i) k) = _
  rw [after0_3, isLast_eq, sqAll, iblk2_eq, iblk2_eq]

/-- The first call's second array, read at an element. -/
theorem outB0_apply (i : Fin 4096) (k : Fin 8) :
    outB0 m c (ix2 i k) = winB (iblk (V1 m) c 0 (pt i)) (iblk (V1 m) c 1 (pt i)) (argX m c) (norms (argX m c)) 1#1 (ix2 (inWin i) k) := by
  have h := (dat0 (V1 m) c).arrAt_emb_eq_flushed 4 (Pipeline.Window.hdisj_of_index_inj win0_4 index4_inj) (pt i) (flush0_4 (pt i)) (ix2 (inWin i) k)
  have hi : ((cfg0.win 4).blk (pt i)).view.emb (ix2 (inWin i) k) = ix2 i k := funext fun a => Fin.ext <| by
    match a with
    | ⟨0, _⟩ =>
      refine (Pipeline.Window.rect_emb_val win0_4 (pt i) (ix2 (inWin i) k) 0).trans ?_
      rw [index0_4]
      show i.val / 512 * 512 + i.val % 512 = i.val
      omega
    | ⟨1, _⟩ =>
      refine (Pipeline.Window.rect_emb_val win0_4 (pt i) (ix2 (inWin i) k) 1).trans ?_
      rw [index0_4]
      show 0 * 8 + k.val = k.val
      omega
  rw [hi] at h
  refine h.trans ?_
  show (dat0 (V1 m) c).after 4 (pt i) (ix2 (inWin i) k) = _
  rw [after0_4, isLast_eq, sqAll, iblk2_eq, iblk2_eq]

/-- The second call's only point. -/
abbrev u0 : Fin cfg1.N := ⟨0, by decide⟩

/-- The second call reads its first operand whole. -/
theorem index1_0 : ∀ t : Fin cfg1.N, win1_0.index t = ![0, 0] := (by decide +kernel : ∀ t : Fin grid1.N, win1_0.index t = ![0, 0])
/-- The second call reads its second operand whole. -/
theorem index1_1 : ∀ t : Fin cfg1.N, win1_1.index t = ![0, 0] := (by decide +kernel : ∀ t : Fin grid1.N, win1_1.index t = ![0, 0])

/-- The second call reads the first array whole. -/
theorem jblk0_eq (t : Fin cfg1.N) : (jblk (W2 m) c 0 t : Vec Ideal S4096x8 .f32) = outA0 m c := by
  rw [← W2_a]
  funext y
  show W2 m c main_call0_v2_0 _ = W2 m c main_call0_v2_0 _
  refine congrArg (W2 m c main_call0_v2_0) (funext fun a => Fin.ext ?_)
  refine Pipeline.Window.rect_emb_val_of_index_zero win1_0 t a ?_ y
  rw [index1_0]
  match a with
  | ⟨0, _⟩ => rfl
  | ⟨1, _⟩ => rfl
/-- The second call reads the second array whole. -/
theorem jblk1_eq (t : Fin cfg1.N) : (jblk (W2 m) c 1 t : Vec Ideal S4096x8 .f32) = outB0 m c := by
  rw [← W2_b]
  funext y
  show W2 m c main_call0_v2_1 _ = W2 m c main_call0_v2_1 _
  refine congrArg (W2 m c main_call0_v2_1) (funext fun a => Fin.ext ?_)
  refine Pipeline.Window.rect_emb_val_of_index_zero win1_1 t a ?_ y
  rw [index1_1]
  match a with
  | ⟨0, _⟩ => rfl
  | ⟨1, _⟩ => rfl

/-- The second call leaves its number in its one cell. -/
theorem outC1_eq : (outC1 m c : Vec Ideal S1x1 .f32) = fun _ => fin1 (outA0 m c) (outB0 m c) := by
  refine (dat1 (W2 m) c).arrAt_eq_of_covers 2 (fun _ => fin1 (outA0 m c) (outB0 m c)) (by decide +kernel) fun t hf y => ?_
  show (dat1 (W2 m) c).after 2 t _ = _
  rw [after1_2, jblk0_eq, jblk1_eq]

/-- The number that the program returns. -/
theorem W4_result : (W4 m c main_v0 : Vec Ideal S_ .f32) = fun _ => fin1 (outA0 m c) (outB0 m c) := by
  funext i
  unfold W4
  unfold_abbrev_sides
  after_results
  rw [W3_c]
  show shapeCast S_ (outC1 m c : Vec Ideal S1x1 .f32) _ i = _
  rw [outC1_eq]
  rfl

end Cert.KernelIdeal.Top
-- ==== Proof.Math.Mean.lean ====
/-
  What both programs return of the two tables of squared distances.
-/
module

public import proofs.«01_k».proof.Proof.Math.Extract
public import Idealize.ShloMosaic.PureOps.Ideal

@[expose] public section

noncomputable section

namespace Cert.Knn

open Idealize.ShloMosaic

/-- The number that is averaged over. -/
abbrev howMany : EReal := Ideal.ofBits .f32 0x47000000#32
/-- The small constant that the scale has added. -/
abbrev small : EReal := Ideal.ofBits .f32 0x3089705F#32

/-- The scale: the mean of the table `A` and a small constant. -/
def scaleOf (A : Fin 4096 → Fin 8 → EReal) : EReal := Ideal.div (∑ i, ∑ k, A i k) howMany + small

/-- The mean of `exp (-A / t) * B`, where `t` is the scale. -/
def meanOf (A B : Fin 4096 → Fin 8 → EReal) : EReal :=
  Ideal.div (∑ i, ∑ k, Ideal.exp (Ideal.div (-(A i k)) (scaleOf A)) * B i k) howMany

/-- The mean does not depend on the order in which each row's set of eight is listed. -/
theorem meanOf_of_lists {n : ℕ} (S : Fin 4096 → Finset (Fin n)) (J J' : Fin 4096 → Fin 8 → Fin n) (hJ : ∀ i, Lists (S i) (J i))
    (hJ' : ∀ i, Lists (S i) (J' i)) (f g : Fin 4096 → Fin n → EReal) :
    meanOf (fun i k => f i (J i k)) (fun i k => g i (J i k)) = meanOf (fun i k => f i (J' i k)) (fun i k => g i (J' i k)) := by
  have hs : scaleOf (fun i k => f i (J i k)) = scaleOf (fun i k => f i (J' i k)) :=
    congrArg (fun z : EReal => Ideal.div z howMany + small) (Finset.sum_congr rfl fun i _ => (hJ i).sum_eq_sum (hJ' i) (f i))
  unfold meanOf
  rw [hs]
  exact congrArg (fun z : EReal => Ideal.div z howMany) (Finset.sum_congr rfl fun i _ =>
    (hJ i).sum_eq_sum (hJ' i) fun p => Ideal.exp (Ideal.div (-(f i p)) _) * g i p)

end Cert.Knn
-- ==== Proof.Math.Numbers.lean ====
/-
  The numbers that the programs write as bit patterns.
-/
module

public import Idealize.ShloMosaic.PureOps.Ideal

@[expose] public section

noncomputable section

namespace Cert.Knn

open Idealize.ShloMosaic

/-- Zero. -/
theorem zero_f32 : Ideal.ofBits .f32 0x00000000#32 = (0 : EReal) := by
  simp [Ideal.ofBits, Ideal.ieee]

/-- The greatest value. -/
theorem inf_f32 : Ideal.ofBits .f32 0x7F800000#32 = ⊤ := by
  simp [Ideal.ofBits, Ideal.ieee]

/-- Two. -/
theorem two_f32 : Ideal.ofBits .f32 0x40000000#32 = ((2 : ℝ) : EReal) := by
  simp [Ideal.ofBits, Ideal.ieee]
  rw [← EReal.coe_mul]
  norm_num

/-- Eight. -/
theorem eight_f32 : Ideal.ofBits .f32 0x41000000#32 = ((8 : ℝ) : EReal) := by
  simp [Ideal.ofBits, Ideal.ieee]
  rw [← EReal.coe_mul]
  norm_num

/-- Minus two. -/
theorem minusTwo_bf16 : Ideal.ofBits .bf16 0xC000#16 = ((-2 : ℝ) : EReal) := by
  simp [Ideal.ofBits, Ideal.ieee]
  rw [← EReal.coe_mul]
  norm_num

/-- The bound on the entries of the points, about `4 * 10 ^ 17`. -/
theorem bound_f32 : Ideal.ofBits .f32 0x5CB1A2BC#32 = ((11641532 * 2 ^ 35 : ℝ) : EReal) := by
  simp [Ideal.ofBits, Ideal.ieee]

/-- The key of a row already taken, about `3 * 10 ^ 38`. -/
theorem taken_f32 : Ideal.ofBits .f32 0x7F61B1E6#32 = ((14791142 * 2 ^ 104 : ℝ) : EReal) := by
  simp [Ideal.ofBits, Ideal.ieee]

/-- The key that the search for a class's least two starts from, about `3 * 10 ^ 38`. -/
theorem big_bf16 : Ideal.ofBits .bf16 0x7F62#16 = ((226 * 2 ^ 120 : ℝ) : EReal) := by
  simp [Ideal.ofBits, Ideal.ieee]

end Cert.Knn
-- ==== Proof.Top.Final.lean ====
/-
  The second call's number at exact values: the mean that the two programs share, of the two tables that the first call leaves.
-/
module

public import proofs.«01_k».proof.Proof.Top.Call1
public import proofs.«01_k».proof.Proof.Math.Mean
public import proofs.«01_k».proof.Proof.Math.Numbers
public import Idealize.ShloMosaic.Lib.Pipeline.Value
public import Idealize.ShloMosaic.Lib.Pointwise.Index
public import Idealize.ShloMosaic.PureOps.Ideal.Laws

@[expose] public section

noncomputable section

namespace Cert.KernelIdeal.Top

open Idealize.ShloMosaic
open Cert.Knn
open Cert.KernelIdeal.Gen

/-- A table's sum, as the second call takes it. -/
theorem total_apply (v : FVec Ideal S4096x8 .f32) :
    extractAt ![0, 0, 0] (shapeCast S1x1x1 (multiReduction .add [1, 2] S1 (shapeCast S1x4096x8 v shapeCasts_S4096x8_S1x4096x8) 0x00000000#32
      reduces_S1x4096x8_S1 (.inl rfl) rfl : FVec Ideal S1 .f32) shapeCasts_S1_S1x1x1) inpos_S1x1x1_p0_0_0
      = ∑ i : Fin 4096, ∑ k : Fin 8, v (ix2 i k) := by
  unfold extractAt
  refine (shapeCast_apply _ shapeCasts_S1_S1x1x1 _ (ix1 (0 : Fin 1)) (by decide)).trans ?_
  refine (Ideal.multiReduction_add_total _ _ reduces_S1x4096x8_S1 (fun b => ?_) _ _ _).trans ?_
  · fin_cases b; rfl
  · refine (sum_idx3 _).trans ?_
    rw [Fin.sum_univ_one]
    refine Finset.sum_congr rfl fun i _ => Finset.sum_congr rfl fun k _ => shapeCast_apply v _ _ _ ?_
    rw [Shape.rowMajor_val_two, Shape.rowMajor_val_three]
    show i.val * 8 + k.val = (0 * 4096 + i.val) * 8 + k.val
    omega

/-- The second call's number is the mean. -/
theorem fin1_eq (a b : Vec Ideal S4096x8 .f32) : fin1 (F := Ideal) a b = meanOf (fun i k => a (ix2 i k)) (fun i k => b (ix2 i k)) := by
  unfold fin1
  rw [shapeCast_self, shapeCast_self]
  refine congrArg (fun z : EReal => Ideal.div z howMany) ((total_apply _).trans ?_)
  refine Finset.sum_congr rfl fun i _ => Finset.sum_congr rfl fun k _ => ?_
  refine congrArg (fun z : EReal => z * b (ix2 i k)) (congrArg Ideal.exp ?_)
  refine congrArg₂ Ideal.div ?_ (congrArg (fun z : EReal => Ideal.div z howMany + small) (total_apply a))
  show Ideal.ofBits .f32 0x00000000#32 - a (ix2 i k) = -(a (ix2 i k))
  rw [zero_f32, zero_sub]

end Cert.KernelIdeal.Top
-- ==== Proof.Math.TopList.lean ====
/-
  The eight greatest of each row of a square matrix, as the host's top-k lists them: eight different positions of the row, and
  the values found there. The order in which they are listed plays no part.
-/
module

public import Idealize.ShloMosaic.Lib.SortFacts
public import Idealize.ShloMosaic.Lib.Pointwise.Tactic

@[expose] public section

namespace Cert.Knn

open Idealize.ShloMosaic

/-- A square matrix's shape. -/
abbrev Square : Shape := ⟨2, ![4096, 4096]⟩
/-- The shape of a list of eight per row. -/
abbrev Eights : Shape := ⟨2, ![4096, 8]⟩

variable {α : Type} (gt : α → α → BitVec 1) (x : Square.Idx → α)

/-- Place `k` among all places of a row. -/
def place (k : Fin 8) : Fin 4096 := ⟨k.val, by have := k.isLt; omega⟩

/-- The position that row `i`'s list has at place `k`. -/
def listed (i : Fin 4096) (k : Fin 8) : Fin 4096 :=
  sortedFrom (fun a b : Fin 4096 => gt (x (ix2 i a)) (x (ix2 i b)) == 1#1) (place k)

/-- A row's list has no position twice. -/
theorem listed_injective (i : Fin 4096) : Function.Injective (listed gt x i) := fun k k' h => by
  unfold listed at h
  have h2 := congrArg Fin.val (sortedFrom_injective _ h)
  exact Fin.ext h2

/-- Replacing the last coordinate. -/
theorem along_ix2 (i j : Fin 4096) (h : 1 < Square.rank) (k : Fin 4096) : (ix2 i j : Square.Idx).along ⟨1, h⟩ k = ix2 i k := by
  unfold Shape.Idx.along
  funext a
  match a with
  | ⟨0, _⟩ => rfl
  | ⟨1, _⟩ => rfl

/-- Row `i` sorted: the position that place `j` takes its value from. -/
theorem sorted_ix2 (i j : Fin 4096) (h : 1 < Square.rank) :
    sortedFrom (fun a b : Fin 4096 => gt (x ((ix2 i j : Square.Idx).along ⟨1, h⟩ a)) (x ((ix2 i j : Square.Idx).along ⟨1, h⟩ b)) == 1#1) j
      = sortedFrom (fun a b : Fin 4096 => gt (x (ix2 i a)) (x (ix2 i b)) == 1#1) j := by
  refine congrArg (fun f => sortedFrom f j) (funext fun a => funext fun b => ?_)
  rw [along_ix2, along_ix2]

/-- The index of a list's entry in the matrix that was sorted. -/
theorem slice_ix2 (i : Fin 4096) (k : Fin 8) (f : Square.Idx → α) (h : Square.Slices (fun _ => 0) Eights) :
    extractStridedSlice Eights (fun _ => 0) f h (ix2 i k) = f (ix2 i (place k)) := by
  unfold extractStridedSlice
  refine congrArg f (funext fun a => Fin.ext ?_)
  match a with
  | ⟨0, _⟩ => show 0 + i.val = i.val; omega
  | ⟨1, _⟩ => show 0 + k.val = k.val; omega

/-- The listed values are the row's at the listed positions. -/
theorem topK_values (i : Fin 4096) (k : Fin 8) (h : Square.Slices (fun _ => 0) Eights) :
    (Host.topK Eights 1 gt x h).1 (ix2 i k) = x (ix2 i (listed gt x i k)) := by
  unfold Host.topK
  dsimp only
  rw [slice_ix2]
  unfold Host.sort2
  rw [dif_pos (by decide)]
  refine (congrArg x (along_ix2 i (place k) (by decide) _)).trans ?_
  exact congrArg (fun p => x (ix2 i p)) (sorted_ix2 gt x i (place k) (by decide))

/-- The number of a place, as a word. -/
theorem iota_ix2 (i p : Fin 4096) (h : 1 < Square.rank) : iotaInDim Square 32 ⟨1, h⟩ (ix2 i p) = BitVec.ofNat 32 p.val := by
  unfold iotaInDim
  rfl

/-- The listed indices are the listed positions. -/
theorem topK_indices (i : Fin 4096) (k : Fin 8) (h : Square.Slices (fun _ => 0) Eights) :
    (Host.topK Eights 1 gt x h).2 (ix2 i k) = BitVec.ofNat 32 (listed gt x i k).val := by
  unfold Host.topK
  dsimp only
  rw [slice_ix2]
  unfold Host.sort2
  rw [dif_pos (by decide)]
  dsimp only
  refine (congrArg (fun i : Square.Idx => if hd : 1 < Square.rank then iotaInDim Square 32 ⟨1, hd⟩ i else 0#32) (along_ix2 i (place k) (by decide) _)).trans ?_
  dsimp only
  rw [dif_pos (by decide)]
  refine (iota_ix2 i _ (by decide)).trans ?_
  rw [show listed gt x i k = _ from (sorted_ix2 gt x i (place k) (by decide)).symm]
  rfl

end Cert.Knn
-- ==== Proof.Top.Reference.lean ====
/-
  The reference at exact values: the squared distances as it computes them, the eight rows that it lists for each row, and
  its result, read as sums.
-/
module

public import proofs.«01_k».proof.Proof.Gen.ReferenceIdeal.Run
public import proofs.«01_k».proof.Proof.Math.TopList
public import proofs.«01_k».proof.Proof.Math.Mean
public import Idealize.ShloMosaic.Lib.StackMember
public import Idealize.ShloMosaic.Lib.Pointwise.Reduce

@[expose] public section

noncomputable section

namespace Cert.ReferenceIdeal.Top

open Idealize.ShloMosaic
open Cert.ReferenceIdeal.Gen Cert.Knn

/-- The squared distances of all rows of `X` to all rows of `X`, as the reference expands them. -/
def d2 (X : FVec Ideal S4096x512 .f32) : FVec Ideal S4096x4096 .f32 :=
  subf (addf (broadcastInDim S4096x4096 ![0, 1] Facts₀.bcast_S4096x1_S4096x4096_0_1 (broadcastInDim S4096x1 ![0] Facts₀.bcast_S4096_S4096x1_0 (Host.reduceAdd (mulf X X) (constant S_ .f32 0x00000000#32) Facts₀.reducesTo_S4096x512_S4096_d1 Facts₀.h_S_)))
    (broadcastInDim S4096x4096 ![0, 1] Facts₀.bcast_S1x4096_S4096x4096_0_1 (broadcastInDim S1x4096 ![1] Facts₀.bcast_S4096_S1x4096_1 (Host.reduceAdd (mulf X X) (constant S_ .f32 0x00000000#32) Facts₀.reducesTo_S4096x512_S4096_d1 Facts₀.h_S_))))
    (mulf (broadcastInDim S4096x4096 ![] Facts₀.bcast_S_S4096x4096 (constant S_ .f32 0x40000000#32)) (Host.dotGeneral dot_S4096x512_S512x4096_S4096x4096_1_0_0_1_n_n none X (transpose S512x4096 [1, 0] X Facts₀.transposes_S4096x512_S512x4096_1_0)))

/-- The indices of the eight nearest rows, as the reference lists them. -/
def near (X : FVec Ideal S4096x512 .f32) : IVec S4096x8 32 :=
  (Host.topK S4096x8 1 (FloatOps.cmpfTotal .gt) (Host.negf (d2 X)) Facts₀.sliceFits_S4096x4096_S4096x8).2

/-- The rows that the indices name. -/
def found (X : FVec Ideal S4096x512 .f32) (idx : IVec S4096x8 32) : FVec Ideal S4096x8x512 .f32 :=
  Host.gather gather_S4096x512_S4096x8x1_S4096x8x512_2_0_n_n_0_2_1512 X (broadcastInDim S4096x8x1 ![0, 1] Facts₀.bcast_S4096x8_S4096x8x1_0_1 (select (cmpi .slt idx (broadcastInDim S4096x8 ![] Facts₀.bcast_S_S4096x8 (constantI S_ 32 0#32))) (addi idx (broadcastInDim S4096x8 ![] Facts₀.bcast_S_S4096x8 (constantI S_ 32 4096#32))) idx))

/-- The squared distances of the rows found to the rows of `Y`. -/
def dist (R : FVec Ideal S4096x8x512 .f32) (Y : FVec Ideal S4096x512 .f32) : FVec Ideal S4096x8 .f32 :=
  Host.reduceAdd (mulf (subf R (broadcastInDim S4096x8x512 ![0, 1, 2] Facts₀.bcast_S4096x1x512_S4096x8x512_0_1_2 (broadcastInDim S4096x1x512 ![0, 2] Facts₀.bcast_S4096x512_S4096x1x512_0_2 Y)))
    (subf R (broadcastInDim S4096x8x512 ![0, 1, 2] Facts₀.bcast_S4096x1x512_S4096x8x512_0_1_2 (broadcastInDim S4096x1x512 ![0, 2] Facts₀.bcast_S4096x512_S4096x1x512_0_2 Y)))) (constant S_ .f32 0x00000000#32) Facts₀.reducesTo_S4096x8x512_S4096x8_d2 Facts₀.h_S_

/-- The mean of `exp (-A / t) * B`, where `t` is the mean of `A` and a small constant. -/
def mean (A B : FVec Ideal S4096x8 .f32) : FVec Ideal S_ .f32 :=
  Host.divf (Host.reduceAdd (mulf (Host.exp (Host.divf (Host.negf A) (broadcastInDim S4096x8 ![] Facts₀.bcast_S_S4096x8 (addf (Host.divf (Host.reduceAdd A (constant S_ .f32 0x00000000#32) Facts₀.reducesTo_S4096x8_S_d0_1 Facts₀.h_S_) (constant S_ .f32 0x47000000#32)) (constant S_ .f32 0x3089705F#32))))) B) (constant S_ .f32 0x00000000#32) Facts₀.reducesTo_S4096x8_S_d0_1 Facts₀.h_S_) (constant S_ .f32 0x47000000#32)

/-- The reference's result in these words. -/
theorem res_eq (m : (ℓ : Loc nD τ sig) → Buf (Elt Ideal) ℓ) (c : Dev nD) :
    (Value.res_out0 m c : FVec Ideal S_ .f32) = mean (dist (found (m ((c.tc : Thread nD τ).loc main_arg0)) (near (m ((c.tc : Thread nD τ).loc main_arg0)))) (m ((c.tc : Thread nD τ).loc main_arg0)))
      (dist (found (m ((c.tc : Thread nD τ).loc main_arg0)) (near (m ((c.tc : Thread nD τ).loc main_arg0)))) (m ((c.tc : Thread nD τ).loc main_arg1))) := by
  show Value.res_main_v39 m c = _
  unfold Value.res_main_v39 mean dist found near d2
  rfl

/-- The sums start from zero. -/
theorem ofBits_zero : Ideal.ofBits .f32 0x00000000#32 = (0 : EReal) := by simp [Ideal.ofBits, Ideal.ieee]

/-- A sum along the rows of a matrix. -/
theorem rowSum_apply (v : FVec Ideal S4096x512 .f32) (h : S4096x512.ReducesTo [1] S4096) (hu : 0 < S_.numel) (i : Fin 4096) :
    Host.reduceAdd v (constant S_ .f32 0x00000000#32) h hu (ix1 i) = ∑ d : Fin 512, v (ix2 i d) := by
  refine (Ideal.hostReduceAdd_r2_a1 h v (Ideal.ofBits .f32 0x00000000#32) (ix1 i)).trans ?_
  rw [ofBits_zero, zero_add]
  rfl

/-- A sum over the last axis. -/
theorem lastSum_apply (v : FVec Ideal S4096x8x512 .f32) (h : S4096x8x512.ReducesTo [2] S4096x8) (hu : 0 < S_.numel) (i : Fin 4096) (k : Fin 8) :
    Host.reduceAdd v (constant S_ .f32 0x00000000#32) h hu (ix2 i k) = ∑ d : Fin 512, v (ix3 i k d) := by
  refine (Ideal.hostReduceAdd_r3_a2 h v (Ideal.ofBits .f32 0x00000000#32) (ix2 i k)).trans ?_
  rw [ofBits_zero, zero_add]
  rfl

/-- A sum over everything. -/
theorem allSum_apply (v : FVec Ideal S4096x8 .f32) (h : S4096x8.ReducesTo [0, 1] S_) (hu : 0 < S_.numel) (u : S_.Idx) :
    Host.reduceAdd v (constant S_ .f32 0x00000000#32) h hu u = ∑ i : Fin 4096, ∑ k : Fin 8, v (ix2 i k) := by
  refine (Ideal.hostReduceAdd_total h (fun b => b.elim0) v (Ideal.ofBits .f32 0x00000000#32) u).trans ?_
  rw [ofBits_zero, zero_add]
  exact sum_idx2 v

/-- The product of `X` with its transpose. -/
theorem gram_apply (X : FVec Ideal S4096x512 .f32) (i j : Fin 4096) :
    Host.dotGeneral dot_S4096x512_S512x4096_S4096x4096_1_0_0_1_n_n none X (transpose S512x4096 [1, 0] X Facts₀.transposes_S4096x512_S512x4096_1_0) (ix2 i j)
      = ∑ d : Fin 512, X (ix2 i d) * X (ix2 j d) := by
  refine (congrArg _ (eq_ix2 (ix2 i j))).trans ?_
  refine (StackMember.dotGeneral_plain_apply (m := 4096) (n := 4096) (k := 512) none X (transpose S512x4096 [1, 0] X Facts₀.transposes_S4096x512_S512x4096_1_0) i j).trans ?_
  refine Finset.sum_congr rfl fun d _ => ?_
  refine congrArg₂ (· * ·) (congrArg X (eq_ix2 _)) ?_
  pointwise

/-- The expanded squared distance of rows `i` and `j`. -/
theorem d2_apply (X : FVec Ideal S4096x512 .f32) (i j : Fin 4096) :
    d2 X (ix2 i j) = ((∑ d : Fin 512, X (ix2 i d) * X (ix2 i d)) + ∑ d : Fin 512, X (ix2 j d) * X (ix2 j d))
      - Ideal.ofBits .f32 0x40000000#32 * ∑ d : Fin 512, X (ix2 i d) * X (ix2 j d) := by
  unfold d2
  pointwise
  exact congrArg (_ - _ * ·) (gram_apply X i j)

/-- The squared distance of the `k`-th row found for row `i` to row `i` of `Y`. -/
theorem dist_apply (R : FVec Ideal S4096x8x512 .f32) (Y : FVec Ideal S4096x512 .f32) (i : Fin 4096) (k : Fin 8) :
    dist R Y (ix2 i k) = ∑ d : Fin 512, (R (ix3 i k d) - Y (ix2 i d)) * (R (ix3 i k d) - Y (ix2 i d)) := by
  unfold dist
  refine (lastSum_apply _ _ _ i k).trans (Finset.sum_congr rfl fun d _ => ?_)
  pointwise

/-- The mean, read as sums. -/
theorem mean_apply (A B : FVec Ideal S4096x8 .f32) (u : S_.Idx) :
    mean A B u = meanOf (fun i k => A (ix2 i k)) (fun i k => B (ix2 i k)) := by
  unfold mean meanOf
  refine congrArg (fun s => Ideal.div s howMany) ((allSum_apply _ _ _ u).trans (Finset.sum_congr rfl fun i _ => Finset.sum_congr rfl fun k _ => ?_))
  show Ideal.exp (Ideal.div (-(A (ix2 i k))) (Ideal.div (Host.reduceAdd A (constant S_ .f32 0x00000000#32) _ _ _) howMany + small)) * B (ix2 i k) = _
  rw [allSum_apply]
  rfl

end Cert.ReferenceIdeal.Top
-- ==== Proof.Top.Found.lean ====
/-
  The rows that the reference's indices name, read at an element.
-/
module

public import proofs.«01_k».proof.Proof.Top.Reference

@[expose] public section

noncomputable section

namespace Cert.ReferenceIdeal.Top

open Idealize.ShloMosaic
open Cert.ReferenceIdeal.Gen Cert.Knn

/-- Taking whole rows: the element at `(i, k, d)` is the operand's at the row that the index names, read signed and kept in range. -/
theorem takeRows_apply (X : FVec Ideal S4096x512 .f32) (idx : IVec S4096x8x1 32) (i : Fin 4096) (k : Fin 8) (d : Fin 512) (p : Fin 4096)
    (h : idx (ix3 i k 0) = BitVec.ofNat 32 p.val) :
    Host.gather gather_S4096x512_S4096x8x1_S4096x8x512_2_0_n_n_0_2_1512 X idx (ix3 i k d) = X (ix2 p d) := by
  unfold Host.gather
  refine congrArg X (funext fun a => Fin.ext ?_)
  match a with
  | ⟨0, _⟩ =>
    show min (idx _).toInt.toNat (4096 - 1) + 0 + 0 = p.val
    have e : gather_S4096x512_S4096x8x1_S4096x8x512_2_0_n_n_0_2_1512.siIdx (ix3 i k d) ⟨0, by decide⟩ = ix3 i k 0 := by
      funext b
      match b with
      | ⟨0, _⟩ => rfl
      | ⟨1, _⟩ => rfl
      | ⟨2, _⟩ => rfl
    have hw : (idx (gather_S4096x512_S4096x8x1_S4096x8x512_2_0_n_n_0_2_1512.siIdx (ix3 i k d) ⟨0, by decide⟩)).toInt = p.val := by
      rw [e, h, BitVec.toInt_ofNat', Int.bmod_def]
      have := p.isLt
      omega
    refine (congrArg (fun z : ℤ => min z.toNat (4096 - 1) + 0 + 0) hw).trans ?_
    have := p.isLt
    show min ((p.val : ℤ)).toNat (4096 - 1) + 0 + 0 = p.val
    omega
  | ⟨1, _⟩ =>
    show 0 + 0 + d.val = d.val
    omega

/-- A row number is not negative, so it is left as it is. -/
theorem select_row (p : Fin 4096) (w v : BitVec 32) (h : w = BitVec.ofNat 32 p.val) : Scalar.select (IntOp.cmpi .slt w 0#32) v w = w := by
  subst h
  have h0 : (BitVec.ofNat 32 p.val).slt 0#32 = false := by
    have h1 : (BitVec.ofNat 32 p.val).toInt = p.val := by
      rw [BitVec.toInt_ofNat', Int.bmod_def]
      have := p.isLt
      omega
    rw [BitVec.slt, h1]
    have : ¬ ((p.val : ℤ) < (0#32).toInt) := by show ¬ ((p.val : ℤ) < 0); omega
    exact decide_eq_false this
  have h1 : IntOp.cmpi .slt (BitVec.ofNat 32 p.val) 0#32 = 0#1 := by
    show BitVec.ofBool ((BitVec.ofNat 32 p.val).slt 0#32) = 0#1
    rw [h0]
    rfl
  rw [h1]
  rfl

/-- The row found. -/
theorem found_apply (X : FVec Ideal S4096x512 .f32) (idx : IVec S4096x8 32) (i : Fin 4096) (k : Fin 8) (d : Fin 512) (p : Fin 4096)
    (h : idx (ix2 i k) = BitVec.ofNat 32 p.val) : found X idx (ix3 i k d) = X (ix2 p d) := by
  unfold found
  refine takeRows_apply X _ i k d p ?_
  pointwise
  exact (select_row p _ _ h).trans h

/-- The row that the reference lists at place `k` for row `i`. -/
def pick (X : FVec Ideal S4096x512 .f32) (i : Fin 4096) (k : Fin 8) : Fin 4096 :=
  listed (FloatOps.cmpfTotal (F := Ideal) (φ := .f32) .gt) (Host.negf (d2 X)) i k

/-- No row is listed twice. -/
theorem pick_injective (X : FVec Ideal S4096x512 .f32) (i : Fin 4096) : Function.Injective (pick X i) := listed_injective _ _ i

/-- The reference's result: the mean over the rows picked. -/
theorem res_apply (X Xd : FVec Ideal S4096x512 .f32) (u : S_.Idx) :
    mean (dist (found X (near X)) X) (dist (found X (near X)) Xd) u
      = meanOf (fun i k => ∑ d : Fin 512, (X (ix2 (pick X i k) d) - X (ix2 i d)) * (X (ix2 (pick X i k) d) - X (ix2 i d)))
          (fun i k => ∑ d : Fin 512, (X (ix2 (pick X i k) d) - Xd (ix2 i d)) * (X (ix2 (pick X i k) d) - Xd (ix2 i d))) := by
  have h : ∀ i k d, found X (near X) (ix3 i k d) = X (ix2 (pick X i k) d) := fun i k d =>
    found_apply X _ i k d _ (topK_indices _ _ i k _)
  rw [mean_apply]
  refine congrArg₂ meanOf (funext fun i => funext fun k => ?_) (funext fun i => funext fun k => ?_)
  · rw [dist_apply]
    exact Finset.sum_congr rfl fun d _ => by rw [h]
  · rw [dist_apply]
    exact Finset.sum_congr rfl fun d _ => by rw [h]

end Cert.ReferenceIdeal.Top
-- ==== Proof.Top.Separated.lean ====
/-
  What the precondition says of the two arguments, at exact values.
-/
module

public import proofs.«01_k».proof.Defs
public import proofs.«01_k».proof.Proof.Top.Found
public import proofs.«01_k».proof.Proof.Math.Candidates
public import proofs.«01_k».proof.Proof.Math.Extract
public import proofs.«01_k».proof.Proof.Math.Numbers

@[expose] public section

noncomputable section

namespace Cert.Pre_separated.Top

open Idealize.ShloMosaic Cert.Knn
open Cert.ReferenceIdeal.Top (d2 pick)

/-- The side conditions of the precondition's operations. -/
instance facts : Cert.Pre_separated.Facts where
  reducesTo_S4096x512_S4096_d1 := by decide
  h_S_ := by decide
  bcast_S4096_S4096x1_0 := by decide
  bcast_S4096_S1x4096_1 := by decide
  bcast_S4096x1_S4096x4096_0_1 := by decide
  bcast_S1x4096_S4096x4096_0_1 := by decide
  transposes_S4096x512_S512x4096_1_0 := by decide
  bcast_S_S4096x4096 := by decide
  sliceFits_S4096x4096_S4096x8 := by decide
  reducesTo_S4096x8_S4096_d1 := by decide
  bcast_S_S4096x512 := by decide
  reducesTo_S4096x4096_S4096_d1 := by decide
  bcast_S_S4096 := by decide
  shapeCasts_S4096x4096_S4096x32x128 := by decide
  reducesTo_S4096x32x128_S4096x128_d1 := by decide
  bcast_S_S4096x128 := by decide
  dot_S4096x512_S512x4096_S4096x4096_1_0_0_1_n_n_wf := by decide

/-- Each row's eighth distance: the greatest of the eight that are listed. -/
def eighth (X : FVec Ideal S4096x512 .f32) : FVec Ideal S4096 .f32 :=
  Host.reduce FloatOps.maximumf (Host.negf (Host.topK S4096x8 1 (FloatOps.cmpfTotal .gt) (Host.negf (d2 X)) Facts.sliceFits_S4096x4096_S4096x8).1)
    (constant S_ .f32 0xFF800000#32) Facts.reducesTo_S4096x8_S4096_d1 Facts.h_S_

/-- One where a row is at most as far as the eighth, zero elsewhere. -/
def within (X : FVec Ideal S4096x512 .f32) : FVec Ideal S4096x4096 .f32 :=
  uitofp .f32 (cmpf .ole (d2 X) (broadcastInDim S4096x4096 ![0, 1] Facts.bcast_S4096x1_S4096x4096_0_1 (broadcastInDim S4096x1 ![0] Facts.bcast_S4096_S4096x1_0 (eighth X))))

/-- The precondition in these words. -/
theorem fn_eq (X Xd : FVec Ideal S4096x512 .f32) : fn X Xd = fn_part1 X Xd (within X) := rfl

/-- The rows at most as far from row `i` as its eighth. -/
def nearest (X : FVec Ideal S4096x512 .f32) (i : Fin 4096) : Finset (Fin 4096) :=
  Finset.univ.filter fun j => d2 X (ix2 i j) ≤ eighth X (ix1 i)

/-- A row is among the nearest if it is no farther than the eighth. -/
theorem mem_nearest (X : FVec Ideal S4096x512 .f32) (i j : Fin 4096) : j ∈ nearest X i ↔ d2 X (ix2 i j) ≤ eighth X (ix1 i) := by
  unfold nearest
  rw [Finset.mem_filter]
  exact and_iff_right (Finset.mem_univ _)

/-- The indicator, read at an element. -/
theorem within_apply (X : FVec Ideal S4096x512 .f32) (i j : Fin 4096) :
    within X (ix2 i j) = if j ∈ nearest X i then (1 : EReal) else 0 := by
  unfold within
  pointwise
  show (((BitVec.ofBool (decide (d2 X (ix2 i j) ≤ eighth X (ix1 i)))).toNat : ℝ) : EReal) = _
  by_cases h : d2 X (ix2 i j) ≤ eighth X (ix1 i)
  · rw [if_pos ((mem_nearest X i j).mpr h), decide_eq_true h]
    show (((1 : ℕ) : ℝ) : EReal) = 1
    rw [Nat.cast_one, EReal.coe_one]
  · rw [if_neg fun h' => h ((mem_nearest X i j).mp h'), decide_eq_false h]
    show (((0 : ℕ) : ℝ) : EReal) = 0
    rw [Nat.cast_zero, EReal.coe_zero]

/-- Every row listed is among the nearest. -/
theorem pick_mem (X : FVec Ideal S4096x512 .f32) (i : Fin 4096) (k : Fin 8) : pick X i k ∈ nearest X i := by
  unfold nearest eighth
  rw [Finset.mem_filter]
  refine ⟨Finset.mem_univ _, ?_⟩
  refine le_of_le_of_eq ?_ (Host.reduce_eq_fold (max : EReal → EReal → EReal) _ _ Facts.reducesTo_S4096x8_S4096_d1 Facts.h_S_ (ix1 i)).symm
  refine (Finset.le_fold_max _).mpr (Or.inr ⟨ix2 i k, Finset.mem_filter.mpr ⟨Finset.mem_univ _, ?_⟩, ?_⟩)
  · refine (eq_ix1 _).trans (congrArg ix1 (Fin.ext rfl))
  · refine le_of_eq ?_
    show d2 X (ix2 i (pick X i k)) = -((Host.topK S4096x8 1 (FloatOps.cmpfTotal .gt) (Host.negf (d2 X)) Facts.sliceFits_S4096x4096_S4096x8).1 (ix2 i k))
    refine Eq.trans ?_ (congrArg (fun z : EReal => -z) (topK_values _ _ i k _).symm)
    show _ = -(-(d2 X (ix2 i (pick X i k))))
    rw [neg_neg]

/-- Counting with ones and zeros. -/
theorem sum_indicator {ι : Type} [Fintype ι] (p : ι → Prop) [DecidablePred p] :
    (∑ j, if p j then (1 : EReal) else 0) = (((Finset.univ.filter p).card : ℝ) : EReal) := by
  rw [Finset.sum_boole, EReal.coe_natCast]

/-- A class's rows in the reshaped indicator. -/
theorem folded_apply (v : FVec Ideal S4096x4096 .f32) (h : S4096x4096.ShapeCasts S4096x32x128) (i : Fin 4096) (c : Fin 32) (l : Fin 128) :
    shapeCast S4096x32x128 v h (ix3 i c l) = v (ix2 i (col c.val l)) := by
  refine shapeCast_apply v h _ _ ?_
  rw [Shape.rowMajor_val_two, Shape.rowMajor_val_three]
  show i.val * 4096 + (128 * (c.val % 32) + l.val) = (i.val * 32 + c.val) * 128 + l.val
  have := c.isLt
  omega

/-- A comparison that gives one holds. -/
theorem of_ofBool {p : Prop} [Decidable p] (h : BitVec.ofBool (decide p) = 1#1) : p := by
  by_contra hp
  rw [decide_eq_false hp] at h
  exact absurd h (by decide)

/-- Exactly eight rows are among the nearest. -/
theorem card_nearest (X Xd : FVec Ideal S4096x512 .f32) (h : (fn X Xd).2.2.1 = fun _ => 1#1) (i : Fin 4096) : (nearest X i).card = 8 := by
  have h1 := congrFun h (ix1 i)
  rw [fn_eq] at h1
  have h2 : Host.reduceAdd (within X) (constant S_ .f32 0x00000000#32) Facts.reducesTo_S4096x4096_S4096_d1 Facts.h_S_ (ix1 i) = Ideal.ofBits .f32 0x41000000#32 := of_ofBool h1
  rw [eight_f32] at h2
  have h3 := (Ideal.hostReduceAdd_r2_a1 Facts.reducesTo_S4096x4096_S4096_d1 (within X) (Ideal.ofBits .f32 0x00000000#32) (ix1 i)).symm.trans h2
  rw [Cert.ReferenceIdeal.Top.ofBits_zero, zero_add] at h3
  have h4 : ∑ j : Fin 4096, within X (ix2 i j) = ((8 : ℝ) : EReal) := h3
  rw [Finset.sum_congr rfl fun j _ => within_apply X i j, sum_indicator, EReal.coe_eq_coe_iff, Finset.filter_univ_mem] at h4
  exact_mod_cast h4

/-- At most two of the nearest rows lie in one class of rows modulo 128. -/
theorem lane_nearest (X Xd : FVec Ideal S4096x512 .f32) (h : (fn X Xd).2.2.2 = fun _ => 1#1) (i : Fin 4096) (l : Fin 128) :
    (Finset.univ.filter fun c : Fin 32 => col c.val l ∈ nearest X i).card ≤ 2 := by
  have h1 := congrFun h (ix2 i l)
  rw [fn_eq] at h1
  have h2 : Host.reduceAdd (shapeCast S4096x32x128 (within X) Facts.shapeCasts_S4096x4096_S4096x32x128) (constant S_ .f32 0x00000000#32) Facts.reducesTo_S4096x32x128_S4096x128_d1 Facts.h_S_ (ix2 i l) ≤ Ideal.ofBits .f32 0x40000000#32 := of_ofBool h1
  rw [two_f32] at h2
  have h3 := (Ideal.hostReduceAdd_r3_a1 Facts.reducesTo_S4096x32x128_S4096x128_d1 (shapeCast S4096x32x128 (within X) Facts.shapeCasts_S4096x4096_S4096x32x128) (Ideal.ofBits .f32 0x00000000#32) (ix2 i l)).symm.trans_le h2
  rw [Cert.ReferenceIdeal.Top.ofBits_zero, zero_add] at h3
  have h4 : ∑ c : Fin 32, shapeCast S4096x32x128 (within X) Facts.shapeCasts_S4096x4096_S4096x32x128 (ix3 i c l) ≤ ((2 : ℝ) : EReal) := h3
  rw [Finset.sum_congr rfl fun c _ => (folded_apply (within X) _ i c l).trans (within_apply X i _), sum_indicator, EReal.coe_le_coe_iff] at h4
  exact_mod_cast h4

/-- The rows listed are the nearest. -/
theorem lists_pick (X Xd : FVec Ideal S4096x512 .f32) (h : (fn X Xd).2.2.1 = fun _ => 1#1) (i : Fin 4096) : Lists (nearest X i) (pick X i) where
  inj := Cert.ReferenceIdeal.Top.pick_injective X i
  mem := pick_mem X i
  card := card_nearest X Xd h i

/-- The nearest rows are nearer than the others. -/
theorem nearest_lt (X : FVec Ideal S4096x512 .f32) (i p q : Fin 4096) (hp : p ∈ nearest X i) (hq : q ∉ nearest X i) : d2 X (ix2 i p) < d2 X (ix2 i q) := by
  rw [mem_nearest] at hp hq
  exact lt_of_le_of_lt hp (not_le.mp hq)

/-- The bound on the points. -/
theorem abs_X (X Xd : FVec Ideal S4096x512 .f32) (h : (fn X Xd).1 = fun _ => 1#1) (i : Fin 4096) (d : Fin 512) :
    max (X (ix2 i d)) (-(X (ix2 i d))) ≤ Ideal.ofBits .f32 0x5CB1A2BC#32 := by
  have h1 := congrFun h (ix2 i d)
  rw [fn_eq] at h1
  exact of_ofBool h1
/-- The velocities are finite. -/
theorem abs_Xd (X Xd : FVec Ideal S4096x512 .f32) (h : (fn X Xd).2.1 = fun _ => 1#1) (i : Fin 4096) (d : Fin 512) :
    max (Xd (ix2 i d)) (-(Xd (ix2 i d))) < Ideal.ofBits .f32 0x7F800000#32 := by
  have h1 := congrFun h (ix2 i d)
  rw [fn_eq] at h1
  exact of_ofBool h1

end Cert.Pre_separated.Top
-- ==== Proof.Math.Distances.lean ====
/-
  Squared distances of real points, in the two ways the programs write them: as a sum of squared differences, and expanded
  into two norms less twice a product.
-/
module

public import proofs.«01_k».proof.Proof.Math.Numbers

@[expose] public section

noncomputable section

namespace Cert.Knn

open Idealize.ShloMosaic

variable {n : ℕ}

/-- A sum of real numbers. -/
theorem sum_coe {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A value with a real bound on its magnitude is real. -/
theorem real_of_abs_le (x : EReal) (B : ℝ) (h : max x (-x) ≤ (B : EReal)) : ∃ r : ℝ, x = (r : EReal) ∧ |r| ≤ B := by
  obtain ⟨h1, h2⟩ := max_le_iff.mp h
  induction x with
  | bot => rw [EReal.neg_bot, top_le_iff] at h2; exact absurd h2 (EReal.coe_ne_top B)
  | top => rw [top_le_iff] at h1; exact absurd h1 (EReal.coe_ne_top B)
  | coe r => exact ⟨r, rfl, abs_le.mpr ⟨neg_le.mp (EReal.coe_le_coe_iff.mp (by rw [EReal.coe_neg]; exact h2)), EReal.coe_le_coe_iff.mp h1⟩⟩

/-- A value of finite magnitude is real. -/
theorem real_of_abs_lt (x : EReal) (h : max x (-x) < ⊤) : ∃ r : ℝ, x = (r : EReal) := by
  obtain ⟨h1, h2⟩ := max_lt_iff.mp h
  induction x with
  | bot => rw [EReal.neg_bot] at h2; exact absurd h2 (lt_irrefl _)
  | top => exact absurd h1 (lt_irrefl _)
  | coe r => exact ⟨r, rfl⟩

/-- A row's key for a row `v`: the norm of `v` less twice the product of the two. -/
def key (x v : Fin n → EReal) : EReal :=
  (∑ d, 1 * (v d * v d)) + ∑ d, (Ideal.ofBits .bf16 0xC000#16 * x d) * v d

/-- The squared distance, by differences. -/
def apart (x v : Fin n → EReal) : EReal := ∑ d, (v d - x d) * (v d - x d)

/-- The squared distance, expanded. -/
def expanded (x v : Fin n → EReal) : EReal :=
  ((∑ d, x d * x d) + ∑ d, v d * v d) - Ideal.ofBits .f32 0x40000000#32 * ∑ d, x d * v d

section
variable (x v : Fin n → ℝ)

/-- The key of real rows. -/
theorem key_coe : key (fun d => (x d : EReal)) (fun d => (v d : EReal)) = ((∑ d, v d * v d + ∑ d, -2 * x d * v d : ℝ) : EReal) := by
  unfold key
  rw [minusTwo_bf16]
  simp only [one_mul, ← EReal.coe_mul, sum_coe, ← EReal.coe_add]

/-- A real row's norm added to its key gives the squared distance. -/
theorem key_add_norm : key (fun d => (x d : EReal)) (fun d => (v d : EReal)) + ∑ d, (x d : EReal) * (x d : EReal)
    = apart (fun d => (x d : EReal)) (fun d => (v d : EReal)) := by
  unfold apart
  rw [key_coe]
  simp only [← EReal.coe_mul, ← EReal.coe_sub, sum_coe, ← EReal.coe_add]
  rw [← Finset.sum_add_distrib, ← Finset.sum_add_distrib]
  exact congrArg _ (Finset.sum_congr rfl fun d _ => by ring)

/-- The expanded distance is the key and the row's norm. -/
theorem expanded_coe : expanded (fun d => (x d : EReal)) (fun d => (v d : EReal))
    = ((∑ d, x d * x d + (∑ d, v d * v d + ∑ d, -2 * x d * v d) : ℝ) : EReal) := by
  unfold expanded
  rw [two_f32]
  simp only [← EReal.coe_mul, sum_coe, ← EReal.coe_add, ← EReal.coe_sub]
  have : ∑ d, -2 * x d * v d = -2 * ∑ d, x d * v d := by
    rw [Finset.mul_sum]
    exact Finset.sum_congr rfl fun d _ => by ring
  rw [this]
  exact congrArg _ (by ring)

/-- The nearer of two rows has the smaller key. -/
theorem key_lt_of_expanded_lt (w : Fin n → ℝ)
    (h : expanded (fun d => (x d : EReal)) (fun d => (v d : EReal)) < expanded (fun d => (x d : EReal)) (fun d => (w d : EReal))) :
    key (fun d => (x d : EReal)) (fun d => (v d : EReal)) < key (fun d => (x d : EReal)) (fun d => (w d : EReal)) := by
  rw [expanded_coe, expanded_coe, EReal.coe_lt_coe_iff] at h
  rw [key_coe, key_coe, EReal.coe_lt_coe_iff]
  linarith

/-- Bounded rows have bounded keys. -/
theorem key_le (B : ℝ) (hx : ∀ d, |x d| ≤ B) (hv : ∀ d, |v d| ≤ B) :
    key (fun d => (x d : EReal)) (fun d => (v d : EReal)) ≤ ((n * (3 * B ^ 2) : ℝ) : EReal) := by
  rw [key_coe, EReal.coe_le_coe_iff, ← Finset.sum_add_distrib]
  refine (Finset.sum_le_card_nsmul _ _ (3 * B ^ 2) fun d _ => ?_).trans_eq (by rw [Finset.card_univ, Fintype.card_fin, nsmul_eq_mul])
  obtain ⟨h1, h2⟩ := abs_le.mp (hx d)
  obtain ⟨h3, h4⟩ := abs_le.mp (hv d)
  nlinarith [mul_nonneg (sub_nonneg.mpr h2) (sub_nonneg.mpr h4), mul_nonneg (neg_le_iff_add_nonneg.mp h1) (neg_le_iff_add_nonneg.mp h3),
    mul_nonneg (sub_nonneg.mpr h4) (neg_le_iff_add_nonneg.mp h3)]

end

/-- The keys of bounded rows lie below both of the numbers that stand for no row. -/
theorem key_lt_big (x v : Fin 512 → ℝ) (hx : ∀ d, |x d| ≤ 11641532 * 2 ^ 35) (hv : ∀ d, |v d| ≤ 11641532 * 2 ^ 35) :
    key (fun d => (x d : EReal)) (fun d => (v d : EReal)) < Ideal.ofBits .bf16 0x7F62#16
      ∧ key (fun d => (x d : EReal)) (fun d => (v d : EReal)) < Ideal.ofBits .f32 0x7F61B1E6#32 := by
  rw [big_bf16, taken_f32]
  exact ⟨(key_le x v _ hx hv).trans_lt (EReal.coe_lt_coe_iff.mpr (by norm_num)), (key_le x v _ hx hv).trans_lt (EReal.coe_lt_coe_iff.mpr (by norm_num))⟩

end Cert.Knn
-- ==== Proof.Top.Equal.lean ====
/-
  The two programs' results are the same number, where the precondition holds.
-/
module

public import proofs.«01_k».proof.Proof.Top.Arrays
public import proofs.«01_k».proof.Proof.Top.Final
public import proofs.«01_k».proof.Proof.Top.Separated
public import proofs.«01_k».proof.Proof.Math.Distances

@[expose] public section

noncomputable section

namespace Cert.KernelIdeal.Top

open Idealize.ShloMosaic Idealize.ShloMosaic.TcCoe
open Cert.Knn
open Cert.KernelIdeal.Gen
open Cert.ReferenceIdeal.Top (d2 pick)
open Cert.Pre_separated.Top

/-- The precondition on a pair of arguments: each of its four tables is one everywhere. -/
def Holds (X Xd : Vec Ideal S4096x512 .f32) : Prop :=
  (Cert.Pre_separated.fn (F := Ideal) X Xd).1 = (fun _ => 1#1) ∧ (Cert.Pre_separated.fn (F := Ideal) X Xd).2.1 = (fun _ => 1#1)
    ∧ (Cert.Pre_separated.fn (F := Ideal) X Xd).2.2.1 = (fun _ => 1#1) ∧ (Cert.Pre_separated.fn (F := Ideal) X Xd).2.2.2 = (fun _ => 1#1)

/-- The reference's distances, expanded. -/
theorem d2_eq (X : Vec Ideal S4096x512 .f32) (i j : Fin 4096) :
    d2 X (ix2 i j) = expanded (fun d : Fin 512 => X (ix2 i d)) (fun d => X (ix2 j d)) := Cert.ReferenceIdeal.Top.d2_apply X i j

/-- For every row, the kernel's two rows of distances are the distances to the nearest rows, in some order. -/
theorem rows_eq (m : (ℓ : Loc nD τ sig) → Buf (Elt Ideal) ℓ) (c : Dev nD) (h : Holds (argX m c) (argXd m c)) (i : Fin 4096) :
    ∃ J : Fin 8 → Fin 4096, Lists (nearest (argX m c) i) J ∧ ∀ k,
      outA0 m c (ix2 i k) = apart (fun d : Fin 512 => argX m c (ix2 i d)) (fun d => argX m c (ix2 (J k) d))
      ∧ outB0 m c (ix2 i k) = apart (fun d : Fin 512 => argXd m c (ix2 i d)) (fun d => argX m c (ix2 (J k) d)) := by
  obtain ⟨hX, hXd, h8, h2⟩ := h
  have hx : ∀ j d, ∃ r : ℝ, argX m c (ix2 j d) = (r : EReal) ∧ |r| ≤ 11641532 * 2 ^ 35 := fun j d =>
    real_of_abs_le _ _ (bound_f32 ▸ abs_X _ _ hX j d)
  have hxd : ∀ d, ∃ r : ℝ, argXd m c (ix2 i d) = (r : EReal) := fun d =>
    real_of_abs_lt _ (inf_f32 ▸ abs_Xd _ _ hXd i d)
  choose x hx hxb using hx
  choose xd hxd using hxd
  have ex : (fun d : Fin 512 => iblk (V1 m) c 0 (pt i) (ix2 (inWin i) d)) = fun d => (x i d : EReal) := funext fun d => (iblk0_apply m c i d).trans (hx i d)
  have exd : (fun d : Fin 512 => iblk (V1 m) c 1 (pt i) (ix2 (inWin i) d)) = fun d => (xd d : EReal) := funext fun d => (iblk1_apply m c i d).trans (hxd d)
  have ev : ∀ j, (fun d : Fin 512 => argX m c (ix2 j d)) = fun d => (x j d : EReal) := fun j => funext fun d => hx j d
  have exd' : (fun d : Fin 512 => argXd m c (ix2 i d)) = fun d => (xd d : EReal) := funext hxd
  have hk : ∀ j, keyOf (fun d => iblk (V1 m) c 0 (pt i) (ix2 (inWin i) d)) (argX m c) j = key (fun d => (x i d : EReal)) (fun d => (x j d : EReal)) :=
    fun j => congrArg₂ key ex (ev j)
  have hkd : ∀ j, keyOf (fun d => iblk (V1 m) c 1 (pt i) (ix2 (inWin i) d)) (argX m c) j = key (fun d => (xd d : EReal)) (fun d => (x j d : EReal)) :=
    fun j => congrArg₂ key exd (ev j)
  obtain ⟨J, hJ, hw⟩ := window_lists (iblk (V1 m) c 0 (pt i)) (iblk (V1 m) c 1 (pt i)) (argX m c) (inWin i) (nearest (argX m c) i)
    (card_nearest _ _ h8 i)
    (fun p hp q hq => by
      rw [hk, hk]
      have := nearest_lt (argX m c) i p q hp hq
      rw [d2_eq, d2_eq, ev, ev, ev] at this
      exact key_lt_of_expanded_lt _ _ _ this)
    (lane_nearest _ _ h2 i)
    (fun j => by rw [hk]; exact (key_lt_big _ _ (hxb i) (hxb j)).1)
    (fun j => by rw [hk]; exact (key_lt_big _ _ (hxb i) (hxb j)).2)
  refine ⟨J, hJ, fun k => ⟨?_, ?_⟩⟩
  · rw [ev, ev, ← key_add_norm]
    refine (outA0_apply m c i k).trans ((hw k).1.trans (congrArg₂ (· + ·) (hk _) (Finset.sum_congr rfl fun d _ => ?_)))
    rw [congrFun ex d]
  · rw [exd', ev, ← key_add_norm]
    refine (outB0_apply m c i k).trans ((hw k).2.trans (congrArg₂ (· + ·) (hkd _) (Finset.sum_congr rfl fun d _ => ?_)))
    rw [congrFun exd d]

/-- The kernel's result is the reference's result, as functions of the arguments. -/
theorem result_eq (m : (ℓ : Loc nD τ sig) → Buf (Elt Ideal) ℓ) (c : Dev nD) (h : Holds (argX m c) (argXd m c)) (u : S_.Idx) :
    fin1 (F := Ideal) (outA0 m c) (outB0 m c) = Cert.ReferenceIdeal.Top.mean (Cert.ReferenceIdeal.Top.dist (Cert.ReferenceIdeal.Top.found (argX m c) (Cert.ReferenceIdeal.Top.near (argX m c))) (argX m c))
      (Cert.ReferenceIdeal.Top.dist (Cert.ReferenceIdeal.Top.found (argX m c) (Cert.ReferenceIdeal.Top.near (argX m c))) (argXd m c)) u := by
  refine (fin1_eq _ _).trans (Eq.trans ?_ (Cert.ReferenceIdeal.Top.res_apply (argX m c) (argXd m c) u).symm)
  choose J hJ hk using rows_eq m c h
  refine Eq.trans (congrArg₂ meanOf (funext fun i => funext fun k => (hk i k).1) (funext fun i => funext fun k => (hk i k).2)) ?_
  exact meanOf_of_lists (nearest (argX m c)) J (pick (argX m c)) hJ (fun i => lists_pick _ _ h.2.2.1 i)
    (fun i p => apart (fun d : Fin 512 => argX m c (ix2 i d)) (fun d => argX m c (ix2 p d)))
    (fun i p => apart (fun d : Fin 512 => argXd m c (ix2 i d)) (fun d => argX m c (ix2 p d)))

/-- From memories with the same arguments, where the precondition holds, the kernel's result array and the reference's are equal. -/
theorem res_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : Holds (argX m c) (argXd m c))
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = argXd m c) :
    (Cert.ReferenceIdeal.Value.res_out0 m' c : Vec Ideal S_ .f32) = W4 m c main_v0 := by
  rw [W4_result]
  refine (Cert.ReferenceIdeal.Top.res_eq m' c).trans ?_
  rw [h0, h1]
  exact funext fun u => (result_eq m c h u).symm

end Cert.KernelIdeal.Top
-- ==== Proof.lean ====
/-
  The certificate's claim, put together from its parts: the frames of the kernel, of the idealized kernel and of the
  reference, and the equality of the two results at exact values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Top.Frames
public import proofs.«01_k».proof.Proof.Top.RefFrame
public import proofs.«01_k».proof.Proof.Top.Equal

@[expose] public section

noncomputable section

namespace Cert.Proof

open Idealize.ShloMosaic Idealize.ShloMosaic.TcCoe Idealize.SL.Sem

/-- At exact values, where the points are separated, the kernel and the reference return the same number. -/
theorem equal : Cert.algebraic_KernelIdeal_ReferenceIdeal_pre_separated (hKernelIdeal := Cert.KernelIdeal.Gen.facts)
    (hReferenceIdeal := Cert.ReferenceIdeal.Gen.facts) (hPre_separated := Cert.Pre_separated.Top.facts) := by
  intro m g m' g' hpre hargs
  refine ⟨fun c => Cert.KernelIdeal.Top.W4 m c Cert.KernelIdeal.main_v0, ?_, ?_⟩
  · exact (θ_run Cert.KernelIdeal.defs _ _).mono (fun r h c => h.1 c) (Cert.KernelIdeal.Top.run m g)
  · exact (θ_run Cert.ReferenceIdeal.defs _ _).mono
      (fun r h c => ⟨(h c).1.trans (Cert.KernelIdeal.Top.res_eq m m' c (hpre c) (hargs c).1 (hargs c).2), (h c).2⟩)
      (Cert.ReferenceIdeal.Value.run m' g')

/-- Everything the certificate claims. -/
theorem claim : Cert.Claim :=
  ⟨Cert.Kernel.Gen.facts, Cert.KernelIdeal.Gen.facts, Cert.ReferenceIdeal.Gen.facts, Cert.Pre_separated.Top.facts,
    Cert.KernelIdeal.Top.kernel_frame, Cert.KernelIdeal.Top.ideal_frame,
    fun m g _ => Cert.KernelIdeal.Top.ideal_frame m g trivial,
    Cert.ReferenceIdeal.Top.reference_frame,
    fun m g _ => Cert.ReferenceIdeal.Top.reference_frame m g trivial,
    trivial, equal⟩

end Cert.Proof

end
